-- ==== Defs.lean ====
def Pre_Kernel [hPre_labels_in_range : Cert.Pre_labels_in_range.Facts] (m : (ℓ : Loc Cert.Kernel.nD Cert.Kernel.τ Cert.Kernel.sig) → Buf (Elt Bits) ℓ) : Prop :=
  ∀ c : Dev Cert.Kernel.nD,
    (Cert.Pre_labels_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_labels_in_range : Cert.Pre_labels_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range [hPre_labels_in_range : Cert.Pre_labels_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_labels_in_range : Cert.Pre_labels_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range [hReferenceIdeal : Cert.ReferenceIdeal.Facts] [hPre_labels_in_range : Cert.Pre_labels_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_labels_in_range : Cert.Pre_labels_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range : Cert.Pre_labels_in_range.Facts),
    quiescent_Kernel (hKernel := hKernel) (hPre_labels_in_range := hPre_labels_in_range)
    ∧ quiescent_KernelIdeal (hKernelIdeal := hKernelIdeal) (hPre_labels_in_range := hPre_labels_in_range)
    ∧ quiescent_ReferenceIdeal (hReferenceIdeal := hReferenceIdeal)
    ∧ quiescent_ReferenceIdeal_pre_labels_in_range (hReferenceIdeal := hReferenceIdeal) (hPre_labels_in_range := hPre_labels_in_range)
    ∧ preserves_Kernel_KernelIdeal
    ∧ algebraic_KernelIdeal_ReferenceIdeal (hKernelIdeal := hKernelIdeal) (hReferenceIdeal := hReferenceIdeal) (hPre_labels_in_range := hPre_labels_in_range)
-- ==== Pre_labels_in_range.lean ====
abbrev S16384x128 : Shape := ⟨2, ![16384, 128]⟩
abbrev S16384 : Shape := ⟨1, ![16384]⟩
abbrev S1000x128 : Shape := ⟨2, ![1000, 128]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384x128 .f32) (main_arg1 : IVec S16384 32) (main_arg2 : FVec F S1000x128 .f32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 1 := constantI S_ 1 1#1
  let main_v2 : IVec S_ 1 := (fun x v => Host.reduce IntOp.andi x v reducesTo_S16384_S_d0 h_S_) main_v1 main_c_0
  let main_c_1 : IVec S_ 32 := constantI S_ 32 1000#32
  let main_v3 : IVec S16384 32 := broadcastInDim S16384 ![] bcast_S_S16384 main_c_1
  let main_v4 : IVec S16384 1 := cmpi .slt main_arg1 main_v3
  let main_c_2 : IVec S_ 1 := constantI S_ 1 1#1
  let main_v5 : IVec S_ 1 := (fun x v => Host.reduce IntOp.andi x v reducesTo_S16384_S_d0 h_S_) main_v4 main_c_2
  let main_v6 : IVec S_ 1 := andi main_v2 main_v5
  main_v6
-- ==== Kernel.lean ====
abbrev S16384x128 : Shape := ⟨2, ![16384, 128]⟩
abbrev S16384 : Shape := ⟨1, ![16384]⟩
abbrev S1000x128 : Shape := ⟨2, ![1000, 128]⟩
abbrev S128x128 : Shape := ⟨2, ![128, 128]⟩
abbrev S16x16 : Shape := ⟨2, ![16, 16]⟩
abbrev S8x128 : Shape := ⟨2, ![8, 128]⟩
abbrev S16 : Shape := ⟨1, ![16]⟩
abbrev S_ : Shape := ⟨0, ![]⟩
abbrev S1x128 : Shape := ⟨2, ![1, 128]⟩
abbrev S128 : Shape := ⟨1, ![128]⟩
abbrev S1x16 : Shape := ⟨2, ![1, 16]⟩

abbrev nBuf : Table → Nat
  | .hbm => 9
  | .local .scVector .vmem => 6
  | _ => 0

abbrev bufTy : (tb : Table) → Fin (nBuf tb) → BufTy
  | .hbm, ⟨0, _⟩ => ⟨S16384x128, .f32⟩
  | .hbm, ⟨1, _⟩ => ⟨S16384, .i32⟩
  | .hbm, ⟨2, _⟩ => ⟨S1000x128, .f32⟩
  | .hbm, ⟨3, _⟩ => ⟨S128x128, .i32⟩
  | .hbm, ⟨4, _⟩ => ⟨S16x16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local .scVector .vmem, ⟨0, _⟩ => ⟨S8x128, .i32⟩
  | .local .scVector .vmem, ⟨1, _⟩ => ⟨S128x128, .f32⟩
  | .local .scVector .vmem, ⟨2, _⟩ => ⟨S128x128, .f32⟩
  | .local .scVector .vmem, ⟨3, _⟩ => ⟨S128x128, .f32⟩
  | .local .scVector .vmem, ⟨4, _⟩ => ⟨S128x128, .f32⟩
  | .local .scVector .vmem, ⟨5, _⟩ => ⟨S16, .f32⟩
  | _, _ => ⟨S16384x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_arg0_scv : Ref sig .scVector := ⟨.hbm, 0, rfl⟩
abbrev main_v0_scv : Ref sig .scVector := ⟨.hbm, 3, rfl⟩
abbrev main_arg2_scv : Ref sig .scVector := ⟨.hbm, 2, rfl⟩
abbrev main_v1_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![1, 16], ![false, false]⟩

def k0_off1 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c8_i32 : BitVec 32 := 8#32
  let v3 : BitVec 32 := Scalar.muli v1 c8_i32
  let c0_i32_128_r0 : BitVec 32 := 0#32
  ![v3.toNat, 0]
def k0_off2 (i : grid0.Coords) (c0_i32_3 : BitVec 32) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c1024_i32 : BitVec 32 := 1024#32
  let v2 : BitVec 32 := Scalar.muli v1 c1024_i32
  let v7 : BitVec 32 := Scalar.addi v2 c0_i32_3
  let c0_i32_4 : BitVec 32 := 0#32
  ![v7.toNat, 0]
@[reducible] def k0_t1_loop : Scf.Loop 32 :=
  let c0_i32_25 : BitVec 32 := 0#32
  let c32_i32 : BitVec 32 := 32#32
  let v29 : BitVec 32 := Scalar.addi c0_i32_25 c32_i32
  let c1_i32_26 : BitVec 32 := 1#32
  ⟨c0_i32_25, v29, c1_i32_26⟩
def k0_off3 (k0_t1 : Fin k0_t1_loop.trips) (c0_i32_129 : BitVec 32) : Fin 2 → Nat :=
  let c0_i32_25 : BitVec 32 := 0#32
  let c1_i32_26 : BitVec 32 := 1#32
  let arg16 : BitVec 32 := Scf.iv c0_i32_25 c1_i32_26 k0_t1
  let c4_i32_128 : BitVec 32 := 4#32
  let v126 : BitVec 32 := Scalar.muli arg16 c4_i32_128
  let v127 : BitVec 32 := Scalar.addi v126 c0_i32_129
  let v128 : Index := Scalar.indexCast v127
  let c0_130 : Index := 0#32
  ![v128.toNat, 0]
def k0_off4 (k0_t1 : Fin k0_t1_loop.trips) (c0_i32_133 : BitVec 32) : Fin 2 → Nat :=
  let c0_i32_25 : BitVec 32 := 0#32
  let c1_i32_26 : BitVec 32 := 1#32
  let arg16 : BitVec 32 := Scf.iv c0_i32_25 c1_i32_26 k0_t1
  let c4_i32_128 : BitVec 32 := 4#32
  let v126 : BitVec 32 := Scalar.muli arg16 c4_i32_128
  let v138 : BitVec 32 := Scalar.addi v126 c0_i32_133
  let v139 : Index := Scalar.indexCast v138
  let c16 : Index := 16#32
  ![v139.toNat, 16]
def k0_off5 (k0_t1 : Fin k0_t1_loop.trips) (c0_i32_136 : BitVec 32) : Fin 2 → Nat :=
  let c0_i32_25 : BitVec 32 := 0#32
  let c1_i32_26 : BitVec 32 := 1#32
  let arg16 : BitVec 32 := Scf.iv c0_i32_25 c1_i32_26 k0_t1
  let c4_i32_128 : BitVec 32 := 4#32
  let v126 : BitVec 32 := Scalar.muli arg16 c4_i32_128
  let v149 : BitVec 32 := Scalar.addi v126 c0_i32_136
  let v150 : Index := Scalar.indexCast v149
  let c32 : Index := 32#32
  ![v150.toNat, 32]
def k0_off6 (k0_t1 : Fin k0_t1_loop.trips) (c0_i32_139 : BitVec 32) : Fin 2 → Nat :=
  let c0_i32_25 : BitVec 32 := 0#32
  let c1_i32_26 : BitVec 32 := 1#32
  let arg16 : BitVec 32 := Scf.iv c0_i32_25 c1_i32_26 k0_t1
  let c4_i32_128 : BitVec 32 := 4#32
  let v126 : BitVec 32 := Scalar.muli arg16 c4_i32_128
  let v160 : BitVec 32 := Scalar.addi v126 c0_i32_139
  let v161 : Index := Scalar.indexCast v160
  let c48 : Index := 48#32
  ![v161.toNat, 48]
def k0_off7 (k0_t1 : Fin k0_t1_loop.trips) (c0_i32_142 : BitVec 32) : Fin 2 → Nat :=
  let c0_i32_25 : BitVec 32 := 0#32
  let c1_i32_26 : BitVec 32 := 1#32
  let arg16 : BitVec 32 := Scf.iv c0_i32_25 c1_i32_26 k0_t1
  let c4_i32_128 : BitVec 32 := 4#32
  let v126 : BitVec 32 := Scalar.muli arg16 c4_i32_128
  let v171 : BitVec 32 := Scalar.addi v126 c0_i32_142
  let v172 : Index := Scalar.indexCast v171
  let c64 : Index := 64#32
  ![v172.toNat, 64]
def k0_off8 (k0_t1 : Fin k0_t1_loop.trips) (c0_i32_145 : BitVec 32) : Fin 2 → Nat :=
  let c0_i32_25 : BitVec 32 := 0#32
  let c1_i32_26 : BitVec 32 := 1#32
  let arg16 : BitVec 32 := Scf.iv c0_i32_25 c1_i32_26 k0_t1
  let c4_i32_128 : BitVec 32 := 4#32
  let v126 : BitVec 32 := Scalar.muli arg16 c4_i32_128
  let v182 : BitVec 32 := Scalar.addi v126 c0_i32_145
  let v183 : Index := Scalar.indexCast v182
  let c80 : Index := 80#32
  ![v183.toNat, 80]
def k0_off9 (k0_t1 : Fin k0_t1_loop.trips) (c0_i32_148 : BitVec 32) : Fin 2 → Nat :=
  let c0_i32_25 : BitVec 32 := 0#32
  let c1_i32_26 : BitVec 32 := 1#32
  let arg16 : BitVec 32 := Scf.iv c0_i32_25 c1_i32_26 k0_t1
  let c4_i32_128 : BitVec 32 := 4#32
  let v126 : BitVec 32 := Scalar.muli arg16 c4_i32_128
  let v193 : BitVec 32 := Scalar.addi v126 c0_i32_148
  let v194 : Index := Scalar.indexCast v193
  let c96 : Index := 96#32
  ![v194.toNat, 96]
def k0_off10 (k0_t1 : Fin k0_t1_loop.trips) (c0_i32_151 : BitVec 32) : Fin 2 → Nat :=
  let c0_i32_25 : BitVec 32 := 0#32
  let c1_i32_26 : BitVec 32 := 1#32
  let arg16 : BitVec 32 := Scf.iv c0_i32_25 c1_i32_26 k0_t1
  let c4_i32_128 : BitVec 32 := 4#32
  let v126 : BitVec 32 := Scalar.muli arg16 c4_i32_128
  let v204 : BitVec 32 := Scalar.addi v126 c0_i32_151
  let v205 : Index := Scalar.indexCast v204
  let c112 : Index := 112#32
  ![v205.toNat, 112]
@[reducible] def k0_t2_loop : Scf.Loop 32 :=
  let c0_i32_39 : BitVec 32 := 0#32
  let c32_i32_40 : BitVec 32 := 32#32
  let v42 : BitVec 32 := Scalar.addi c0_i32_39 c32_i32_40
  let c1_i32_41 : BitVec 32 := 1#32
  ⟨c0_i32_39, v42, c1_i32_41⟩
def k0_off11 (k0_t2 : Fin k0_t2_loop.trips) (c0_i32_129 : BitVec 32) : Fin 2 → Nat :=
  let c0_i32_39 : BitVec 32 := 0#32
  let c1_i32_41 : BitVec 32 := 1#32
  let arg16 : BitVec 32 := Scf.iv c0_i32_39 c1_i32_41 k0_t2
  let c4_i32_128 : BitVec 32 := 4#32
  let v126 : BitVec 32 := Scalar.muli arg16 c4_i32_128
  let v127 : BitVec 32 := Scalar.addi v126 c0_i32_129
  let v128 : Index := Scalar.indexCast v127
  let c0_130 : Index := 0#32
  ![v128.toNat, 0]
def k0_off12 (k0_t2 : Fin k0_t2_loop.trips) (c0_i32_133 : BitVec 32) : Fin 2 → Nat :=
  let c0_i32_39 : BitVec 32 := 0#32
  let c1_i32_41 : BitVec 32 := 1#32
  let arg16 : BitVec 32 := Scf.iv c0_i32_39 c1_i32_41 k0_t2
  let c4_i32_128 : BitVec 32 := 4#32
  let v126 : BitVec 32 := Scalar.muli arg16 c4_i32_128
  let v138 : BitVec 32 := Scalar.addi v126 c0_i32_133
  let v139 : Index := Scalar.indexCast v138
  let c16 : Index := 16#32
  ![v139.toNat, 16]
def k0_off13 (k0_t2 : Fin k0_t2_loop.trips) (c0_i32_136 : BitVec 32) : Fin 2 → Nat :=
  let c0_i32_39 : BitVec 32 := 0#32
  let c1_i32_41 : BitVec 32 := 1#32
  let arg16 : BitVec 32 := Scf.iv c0_i32_39 c1_i32_41 k0_t2
  let c4_i32_128 : BitVec 32 := 4#32
  let v126 : BitVec 32 := Scalar.muli arg16 c4_i32_128
  let v149 : BitVec 32 := Scalar.addi v126 c0_i32_136
  let v150 : Index := Scalar.indexCast v149
  let c32 : Index := 32#32
  ![v150.toNat, 32]
def k0_off14 (k0_t2 : Fin k0_t2_loop.trips) (c0_i32_139 : BitVec 32) : Fin 2 → Nat :=
  let c0_i32_39 : BitVec 32 := 0#32
  let c1_i32_41 : BitVec 32 := 1#32
  let arg16 : BitVec 32 := Scf.iv c0_i32_39 c1_i32_41 k0_t2
  let c4_i32_128 : BitVec 32 := 4#32
  let v126 : BitVec 32 := Scalar.muli arg16 c4_i32_128
  let v160 : BitVec 32 := Scalar.addi v126 c0_i32_139
  let v161 : Index := Scalar.indexCast v160
  let c48 : Index := 48#32
  ![v161.toNat, 48]
def k0_off15 (k0_t2 : Fin k0_t2_loop.trips) (c0_i32_142 : BitVec 32) : Fin 2 → Nat :=
  let c0_i32_39 : BitVec 32 := 0#32
  let c1_i32_41 : BitVec 32 := 1#32
  let arg16 : BitVec 32 := Scf.iv c0_i32_39 c1_i32_41 k0_t2
  let c4_i32_128 : BitVec 32 := 4#32
  let v126 : BitVec 32 := Scalar.muli arg16 c4_i32_128
  let v171 : BitVec 32 := Scalar.addi v126 c0_i32_142
  let v172 : Index := Scalar.indexCast v171
  let c64 : Index := 64#32
  ![v172.toNat, 64]
def k0_off16 (k0_t2 : Fin k0_t2_loop.trips) (c0_i32_145 : BitVec 32) : Fin 2 → Nat :=
  let c0_i32_39 : BitVec 32 := 0#32
  let c1_i32_41 : BitVec 32 := 1#32
  let arg16 : BitVec 32 := Scf.iv c0_i32_39 c1_i32_41 k0_t2
  let c4_i32_128 : BitVec 32 := 4#32
  let v126 : BitVec 32 := Scalar.muli arg16 c4_i32_128
  let v182 : BitVec 32 := Scalar.addi v126 c0_i32_145
  let v183 : Index := Scalar.indexCast v182
  let c80 : Index := 80#32
  ![v183.toNat, 80]
def k0_off17 (k0_t2 : Fin k0_t2_loop.trips) (c0_i32_148 : BitVec 32) : Fin 2 → Nat :=
  let c0_i32_39 : BitVec 32 := 0#32
  let c1_i32_41 : BitVec 32 := 1#32
  let arg16 : BitVec 32 := Scf.iv c0_i32_39 c1_i32_41 k0_t2
  let c4_i32_128 : BitVec 32 := 4#32
  let v126 : BitVec 32 := Scalar.muli arg16 c4_i32_128
  let v193 : BitVec 32 := Scalar.addi v126 c0_i32_148
  let v194 : Index := Scalar.indexCast v193
  let c96 : Index := 96#32
  ![v194.toNat, 96]
def k0_off18 (k0_t2 : Fin k0_t2_loop.trips) (c0_i32_151 : BitVec 32) : Fin 2 → Nat :=
  let c0_i32_39 : BitVec 32 := 0#32
  let c1_i32_41 : BitVec 32 := 1#32
  let arg16 : BitVec 32 := Scf.iv c0_i32_39 c1_i32_41 k0_t2
  let c4_i32_128 : BitVec 32 := 4#32
  let v126 : BitVec 32 := Scalar.muli arg16 c4_i32_128
  let v204 : BitVec 32 := Scalar.addi v126 c0_i32_151
  let v205 : Index := Scalar.indexCast v204
  let c112 : Index := 112#32
  ![v205.toNat, 112]
@[reducible] def k0_t3_loop : Scf.Loop 32 :=
  let c0_i32_54 : BitVec 32 := 0#32
  let c32_i32_55 : BitVec 32 := 32#32
  let v55 : BitVec 32 := Scalar.addi c0_i32_54 c32_i32_55
  let c1_i32_56 : BitVec 32 := 1#32
  ⟨c0_i32_54, v55, c1_i32_56⟩
def k0_off19 (k0_t3 : Fin k0_t3_loop.trips) (c0_i32_129 : BitVec 32) : Fin 2 → Nat :=
  let c0_i32_54 : BitVec 32 := 0#32
  let c1_i32_56 : BitVec 32 := 1#32
  let arg16 : BitVec 32 := Scf.iv c0_i32_54 c1_i32_56 k0_t3
  let c4_i32_128 : BitVec 32 := 4#32
  let v126 : BitVec 32 := Scalar.muli arg16 c4_i32_128
  let v127 : BitVec 32 := Scalar.addi v126 c0_i32_129
  let v128 : Index := Scalar.indexCast v127
  let c0_130 : Index := 0#32
  ![v128.toNat, 0]
def k0_off20 (k0_t3 : Fin k0_t3_loop.trips) (c0_i32_133 : BitVec 32) : Fin 2 → Nat :=
  let c0_i32_54 : BitVec 32 := 0#32
  let c1_i32_56 : BitVec 32 := 1#32
  let arg16 : BitVec 32 := Scf.iv c0_i32_54 c1_i32_56 k0_t3
  let c4_i32_128 : BitVec 32 := 4#32
  let v126 : BitVec 32 := Scalar.muli arg16 c4_i32_128
  let v138 : BitVec 32 := Scalar.addi v126 c0_i32_133
  let v139 : Index := Scalar.indexCast v138
  let c16 : Index := 16#32
  ![v139.toNat, 16]
def k0_off21 (k0_t3 : Fin k0_t3_loop.trips) (c0_i32_136 : BitVec 32) : Fin 2 → Nat :=
  let c0_i32_54 : BitVec 32 := 0#32
  let c1_i32_56 : BitVec 32 := 1#32
  let arg16 : BitVec 32 := Scf.iv c0_i32_54 c1_i32_56 k0_t3
  let c4_i32_128 : BitVec 32 := 4#32
  let v126 : BitVec 32 := Scalar.muli arg16 c4_i32_128
  let v149 : BitVec 32 := Scalar.addi v126 c0_i32_136
  let v150 : Index := Scalar.indexCast v149
  let c32 : Index := 32#32
  ![v150.toNat, 32]
def k0_off22 (k0_t3 : Fin k0_t3_loop.trips) (c0_i32_139 : BitVec 32) : Fin 2 → Nat :=
  let c0_i32_54 : BitVec 32 := 0#32
  let c1_i32_56 : BitVec 32 := 1#32
  let arg16 : BitVec 32 := Scf.iv c0_i32_54 c1_i32_56 k0_t3
  let c4_i32_128 : BitVec 32 := 4#32
  let v126 : BitVec 32 := Scalar.muli arg16 c4_i32_128
  let v160 : BitVec 32 := Scalar.addi v126 c0_i32_139
  let v161 : Index := Scalar.indexCast v160
  let c48 : Index := 48#32
  ![v161.toNat, 48]
def k0_off23 (k0_t3 : Fin k0_t3_loop.trips) (c0_i32_142 : BitVec 32) : Fin 2 → Nat :=
  let c0_i32_54 : BitVec 32 := 0#32
  let c1_i32_56 : BitVec 32 := 1#32
  let arg16 : BitVec 32 := Scf.iv c0_i32_54 c1_i32_56 k0_t3
  let c4_i32_128 : BitVec 32 := 4#32
  let v126 : BitVec 32 := Scalar.muli arg16 c4_i32_128
  let v171 : BitVec 32 := Scalar.addi v126 c0_i32_142
  let v172 : Index := Scalar.indexCast v171
  let c64 : Index := 64#32
  ![v172.toNat, 64]
def k0_off24 (k0_t3 : Fin k0_t3_loop.trips) (c0_i32_145 : BitVec 32) : Fin 2 → Nat :=
  let c0_i32_54 : BitVec 32 := 0#32
  let c1_i32_56 : BitVec 32 := 1#32
  let arg16 : BitVec 32 := Scf.iv c0_i32_54 c1_i32_56 k0_t3
  let c4_i32_128 : BitVec 32 := 4#32
  let v126 : BitVec 32 := Scalar.muli arg16 c4_i32_128
  let v182 : BitVec 32 := Scalar.addi v126 c0_i32_145
  let v183 : Index := Scalar.indexCast v182
  let c80 : Index := 80#32
  ![v183.toNat, 80]
def k0_off25 (k0_t3 : Fin k0_t3_loop.trips) (c0_i32_148 : BitVec 32) : Fin 2 → Nat :=
  let c0_i32_54 : BitVec 32 := 0#32
  let c1_i32_56 : BitVec 32 := 1#32
  let arg16 : BitVec 32 := Scf.iv c0_i32_54 c1_i32_56 k0_t3
  let c4_i32_128 : BitVec 32 := 4#32
  let v126 : BitVec 32 := Scalar.muli arg16 c4_i32_128
  let v193 : BitVec 32 := Scalar.addi v126 c0_i32_148
  let v194 : Index := Scalar.indexCast v193
  let c96 : Index := 96#32
  ![v194.toNat, 96]
def k0_off26 (k0_t3 : Fin k0_t3_loop.trips) (c0_i32_151 : BitVec 32) : Fin 2 → Nat :=
  let c0_i32_54 : BitVec 32 := 0#32
  let c1_i32_56 : BitVec 32 := 1#32
  let arg16 : BitVec 32 := Scf.iv c0_i32_54 c1_i32_56 k0_t3
  let c4_i32_128 : BitVec 32 := 4#32
  let v126 : BitVec 32 := Scalar.muli arg16 c4_i32_128
  let v204 : BitVec 32 := Scalar.addi v126 c0_i32_151
  let v205 : Index := Scalar.indexCast v204
  let c112 : Index := 112#32
  ![v205.toNat, 112]
@[reducible] def k0_t4_loop : Scf.Loop 32 :=
  let c0_i32_69 : BitVec 32 := 0#32
  let c32_i32_70 : BitVec 32 := 32#32
  let v68 : BitVec 32 := Scalar.addi c0_i32_69 c32_i32_70
  let c1_i32_71 : BitVec 32 := 1#32
  ⟨c0_i32_69, v68, c1_i32_71⟩
def k0_off27 (k0_t4 : Fin k0_t4_loop.trips) (c0_i32_129 : BitVec 32) : Fin 2 → Nat :=
  let c0_i32_69 : BitVec 32 := 0#32
  let c1_i32_71 : BitVec 32 := 1#32
  let arg16 : BitVec 32 := Scf.iv c0_i32_69 c1_i32_71 k0_t4
  let c4_i32_128 : BitVec 32 := 4#32
  let v126 : BitVec 32 := Scalar.muli arg16 c4_i32_128
  let v127 : BitVec 32 := Scalar.addi v126 c0_i32_129
  let v128 : Index := Scalar.indexCast v127
  let c0_130 : Index := 0#32
  ![v128.toNat, 0]
def k0_off28 (k0_t4 : Fin k0_t4_loop.trips) (c0_i32_133 : BitVec 32) : Fin 2 → Nat :=
  let c0_i32_69 : BitVec 32 := 0#32
  let c1_i32_71 : BitVec 32 := 1#32
  let arg16 : BitVec 32 := Scf.iv c0_i32_69 c1_i32_71 k0_t4
  let c4_i32_128 : BitVec 32 := 4#32
  let v126 : BitVec 32 := Scalar.muli arg16 c4_i32_128
  let v138 : BitVec 32 := Scalar.addi v126 c0_i32_133
  let v139 : Index := Scalar.indexCast v138
  let c16 : Index := 16#32
  ![v139.toNat, 16]
def k0_off29 (k0_t4 : Fin k0_t4_loop.trips) (c0_i32_136 : BitVec 32) : Fin 2 → Nat :=
  let c0_i32_69 : BitVec 32 := 0#32
  let c1_i32_71 : BitVec 32 := 1#32
  let arg16 : BitVec 32 := Scf.iv c0_i32_69 c1_i32_71 k0_t4
  let c4_i32_128 : BitVec 32 := 4#32
  let v126 : BitVec 32 := Scalar.muli arg16 c4_i32_128
  let v149 : BitVec 32 := Scalar.addi v126 c0_i32_136
  let v150 : Index := Scalar.indexCast v149
  let c32 : Index := 32#32
  ![v150.toNat, 32]
def k0_off30 (k0_t4 : Fin k0_t4_loop.trips) (c0_i32_139 : BitVec 32) : Fin 2 → Nat :=
  let c0_i32_69 : BitVec 32 := 0#32
  let c1_i32_71 : BitVec 32 := 1#32
  let arg16 : BitVec 32 := Scf.iv c0_i32_69 c1_i32_71 k0_t4
  let c4_i32_128 : BitVec 32 := 4#32
  let v126 : BitVec 32 := Scalar.muli arg16 c4_i32_128
  let v160 : BitVec 32 := Scalar.addi v126 c0_i32_139
  let v161 : Index := Scalar.indexCast v160
  let c48 : Index := 48#32
  ![v161.toNat, 48]
def k0_off31 (k0_t4 : Fin k0_t4_loop.trips) (c0_i32_142 : BitVec 32) : Fin 2 → Nat :=
  let c0_i32_69 : BitVec 32 := 0#32
  let c1_i32_71 : BitVec 32 := 1#32
  let arg16 : BitVec 32 := Scf.iv c0_i32_69 c1_i32_71 k0_t4
  let c4_i32_128 : BitVec 32 := 4#32
  let v126 : BitVec 32 := Scalar.muli arg16 c4_i32_128
  let v171 : BitVec 32 := Scalar.addi v126 c0_i32_142
  let v172 : Index := Scalar.indexCast v171
  let c64 : Index := 64#32
  ![v172.toNat, 64]
def k0_off32 (k0_t4 : Fin k0_t4_loop.trips) (c0_i32_145 : BitVec 32) : Fin 2 → Nat :=
  let c0_i32_69 : BitVec 32 := 0#32
  let c1_i32_71 : BitVec 32 := 1#32
  let arg16 : BitVec 32 := Scf.iv c0_i32_69 c1_i32_71 k0_t4
  let c4_i32_128 : BitVec 32 := 4#32
  let v126 : BitVec 32 := Scalar.muli arg16 c4_i32_128
  let v182 : BitVec 32 := Scalar.addi v126 c0_i32_145
  let v183 : Index := Scalar.indexCast v182
  let c80 : Index := 80#32
  ![v183.toNat, 80]
def k0_off33 (k0_t4 : Fin k0_t4_loop.trips) (c0_i32_148 : BitVec 32) : Fin 2 → Nat :=
  let c0_i32_69 : BitVec 32 := 0#32
  let c1_i32_71 : BitVec 32 := 1#32
  let arg16 : BitVec 32 := Scf.iv c0_i32_69 c1_i32_71 k0_t4
  let c4_i32_128 : BitVec 32 := 4#32
  let v126 : BitVec 32 := Scalar.muli arg16 c4_i32_128
  let v193 : BitVec 32 := Scalar.addi v126 c0_i32_148
  let v194 : Index := Scalar.indexCast v193
  let c96 : Index := 96#32
  ![v194.toNat, 96]
def k0_off34 (k0_t4 : Fin k0_t4_loop.trips) (c0_i32_151 : BitVec 32) : Fin 2 → Nat :=
  let c0_i32_69 : BitVec 32 := 0#32
  let c1_i32_71 : BitVec 32 := 1#32
  let arg16 : BitVec 32 := Scf.iv c0_i32_69 c1_i32_71 k0_t4
  let c4_i32_128 : BitVec 32 := 4#32
  let v126 : BitVec 32 := Scalar.muli arg16 c4_i32_128
  let v204 : BitVec 32 := Scalar.addi v126 c0_i32_151
  let v205 : Index := Scalar.indexCast v204
  let c112 : Index := 112#32
  ![v205.toNat, 112]
@[reducible] def k0_t5_loop : Scf.Loop 32 :=
  let c0_i32_84 : BitVec 32 := 0#32
  let c32_i32_85 : BitVec 32 := 32#32
  let v81 : BitVec 32 := Scalar.addi c0_i32_84 c32_i32_85
  let c1_i32_86 : BitVec 32 := 1#32
  ⟨c0_i32_84, v81, c1_i32_86⟩
def k0_off35 (k0_t5 : Fin k0_t5_loop.trips) (c0_i32_129 : BitVec 32) : Fin 2 → Nat :=
  let c0_i32_84 : BitVec 32 := 0#32
  let c1_i32_86 : BitVec 32 := 1#32
  let arg16 : BitVec 32 := Scf.iv c0_i32_84 c1_i32_86 k0_t5
  let c4_i32_128 : BitVec 32 := 4#32
  let v126 : BitVec 32 := Scalar.muli arg16 c4_i32_128
  let v127 : BitVec 32 := Scalar.addi v126 c0_i32_129
  let v128 : Index := Scalar.indexCast v127
  let c0_130 : Index := 0#32
  ![v128.toNat, 0]
def k0_off36 (k0_t5 : Fin k0_t5_loop.trips) (c0_i32_133 : BitVec 32) : Fin 2 → Nat :=
  let c0_i32_84 : BitVec 32 := 0#32
  let c1_i32_86 : BitVec 32 := 1#32
  let arg16 : BitVec 32 := Scf.iv c0_i32_84 c1_i32_86 k0_t5
  let c4_i32_128 : BitVec 32 := 4#32
  let v126 : BitVec 32 := Scalar.muli arg16 c4_i32_128
  let v138 : BitVec 32 := Scalar.addi v126 c0_i32_133
  let v139 : Index := Scalar.indexCast v138
  let c16 : Index := 16#32
  ![v139.toNat, 16]
def k0_off37 (k0_t5 : Fin k0_t5_loop.trips) (c0_i32_136 : BitVec 32) : Fin 2 → Nat :=
  let c0_i32_84 : BitVec 32 := 0#32
  let c1_i32_86 : BitVec 32 := 1#32
  let arg16 : BitVec 32 := Scf.iv c0_i32_84 c1_i32_86 k0_t5
  let c4_i32_128 : BitVec 32 := 4#32
  let v126 : BitVec 32 := Scalar.muli arg16 c4_i32_128
  let v149 : BitVec 32 := Scalar.addi v126 c0_i32_136
  let v150 : Index := Scalar.indexCast v149
  let c32 : Index := 32#32
  ![v150.toNat, 32]
def k0_off38 (k0_t5 : Fin k0_t5_loop.trips) (c0_i32_139 : BitVec 32) : Fin 2 → Nat :=
  let c0_i32_84 : BitVec 32 := 0#32
  let c1_i32_86 : BitVec 32 := 1#32
  let arg16 : BitVec 32 := Scf.iv c0_i32_84 c1_i32_86 k0_t5
  let c4_i32_128 : BitVec 32 := 4#32
  let v126 : BitVec 32 := Scalar.muli arg16 c4_i32_128
  let v160 : BitVec 32 := Scalar.addi v126 c0_i32_139
  let v161 : Index := Scalar.indexCast v160
  let c48 : Index := 48#32
  ![v161.toNat, 48]
def k0_off39 (k0_t5 : Fin k0_t5_loop.trips) (c0_i32_142 : BitVec 32) : Fin 2 → Nat :=
  let c0_i32_84 : BitVec 32 := 0#32
  let c1_i32_86 : BitVec 32 := 1#32
  let arg16 : BitVec 32 := Scf.iv c0_i32_84 c1_i32_86 k0_t5
  let c4_i32_128 : BitVec 32 := 4#32
  let v126 : BitVec 32 := Scalar.muli arg16 c4_i32_128
  let v171 : BitVec 32 := Scalar.addi v126 c0_i32_142
  let v172 : Index := Scalar.indexCast v171
  let c64 : Index := 64#32
  ![v172.toNat, 64]
def k0_off40 (k0_t5 : Fin k0_t5_loop.trips) (c0_i32_145 : BitVec 32) : Fin 2 → Nat :=
  let c0_i32_84 : BitVec 32 := 0#32
  let c1_i32_86 : BitVec 32 := 1#32
  let arg16 : BitVec 32 := Scf.iv c0_i32_84 c1_i32_86 k0_t5
  let c4_i32_128 : BitVec 32 := 4#32
  let v126 : BitVec 32 := Scalar.muli arg16 c4_i32_128
  let v182 : BitVec 32 := Scalar.addi v126 c0_i32_145
  let v183 : Index := Scalar.indexCast v182
  let c80 : Index := 80#32
  ![v183.toNat, 80]
def k0_off41 (k0_t5 : Fin k0_t5_loop.trips) (c0_i32_148 : BitVec 32) : Fin 2 → Nat :=
  let c0_i32_84 : BitVec 32 := 0#32
  let c1_i32_86 : BitVec 32 := 1#32
  let arg16 : BitVec 32 := Scf.iv c0_i32_84 c1_i32_86 k0_t5
  let c4_i32_128 : BitVec 32 := 4#32
  let v126 : BitVec 32 := Scalar.muli arg16 c4_i32_128
  let v193 : BitVec 32 := Scalar.addi v126 c0_i32_148
  let v194 : Index := Scalar.indexCast v193
  let c96 : Index := 96#32
  ![v194.toNat, 96]
def k0_off42 (k0_t5 : Fin k0_t5_loop.trips) (c0_i32_151 : BitVec 32) : Fin 2 → Nat :=
  let c0_i32_84 : BitVec 32 := 0#32
  let c1_i32_86 : BitVec 32 := 1#32
  let arg16 : BitVec 32 := Scf.iv c0_i32_84 c1_i32_86 k0_t5
  let c4_i32_128 : BitVec 32 := 4#32
  let v126 : BitVec 32 := Scalar.muli arg16 c4_i32_128
  let v204 : BitVec 32 := Scalar.addi v126 c0_i32_151
  let v205 : Index := Scalar.indexCast v204
  let c112 : Index := 112#32
  ![v205.toNat, 112]
@[reducible] def k0_t6_loop : Scf.Loop 32 :=
  let c0_i32_99 : BitVec 32 := 0#32
  let c32_i32_100 : BitVec 32 := 32#32
  let v94 : BitVec 32 := Scalar.addi c0_i32_99 c32_i32_100
  let c1_i32_101 : BitVec 32 := 1#32
  ⟨c0_i32_99, v94, c1_i32_101⟩
def k0_off43 (k0_t6 : Fin k0_t6_loop.trips) (c0_i32_129 : BitVec 32) : Fin 2 → Nat :=
  let c0_i32_99 : BitVec 32 := 0#32
  let c1_i32_101 : BitVec 32 := 1#32
  let arg16 : BitVec 32 := Scf.iv c0_i32_99 c1_i32_101 k0_t6
  let c4_i32_128 : BitVec 32 := 4#32
  let v126 : BitVec 32 := Scalar.muli arg16 c4_i32_128
  let v127 : BitVec 32 := Scalar.addi v126 c0_i32_129
  let v128 : Index := Scalar.indexCast v127
  let c0_130 : Index := 0#32
  ![v128.toNat, 0]
def k0_off44 (k0_t6 : Fin k0_t6_loop.trips) (c0_i32_133 : BitVec 32) : Fin 2 → Nat :=
  let c0_i32_99 : BitVec 32 := 0#32
  let c1_i32_101 : BitVec 32 := 1#32
  let arg16 : BitVec 32 := Scf.iv c0_i32_99 c1_i32_101 k0_t6
  let c4_i32_128 : BitVec 32 := 4#32
  let v126 : BitVec 32 := Scalar.muli arg16 c4_i32_128
  let v138 : BitVec 32 := Scalar.addi v126 c0_i32_133
  let v139 : Index := Scalar.indexCast v138
  let c16 : Index := 16#32
  ![v139.toNat, 16]
def k0_off45 (k0_t6 : Fin k0_t6_loop.trips) (c0_i32_136 : BitVec 32) : Fin 2 → Nat :=
  let c0_i32_99 : BitVec 32 := 0#32
  let c1_i32_101 : BitVec 32 := 1#32
  let arg16 : BitVec 32 := Scf.iv c0_i32_99 c1_i32_101 k0_t6
  let c4_i32_128 : BitVec 32 := 4#32
  let v126 : BitVec 32 := Scalar.muli arg16 c4_i32_128
  let v149 : BitVec 32 := Scalar.addi v126 c0_i32_136
  let v150 : Index := Scalar.indexCast v149
  let c32 : Index := 32#32
  ![v150.toNat, 32]
def k0_off46 (k0_t6 : Fin k0_t6_loop.trips) (c0_i32_139 : BitVec 32) : Fin 2 → Nat :=
  let c0_i32_99 : BitVec 32 := 0#32
  let c1_i32_101 : BitVec 32 := 1#32
  let arg16 : BitVec 32 := Scf.iv c0_i32_99 c1_i32_101 k0_t6
  let c4_i32_128 : BitVec 32 := 4#32
  let v126 : BitVec 32 := Scalar.muli arg16 c4_i32_128
  let v160 : BitVec 32 := Scalar.addi v126 c0_i32_139
  let v161 : Index := Scalar.indexCast v160
  let c48 : Index := 48#32
  ![v161.toNat, 48]
def k0_off47 (k0_t6 : Fin k0_t6_loop.trips) (c0_i32_142 : BitVec 32) : Fin 2 → Nat :=
  let c0_i32_99 : BitVec 32 := 0#32
  let c1_i32_101 : BitVec 32 := 1#32
  let arg16 : BitVec 32 := Scf.iv c0_i32_99 c1_i32_101 k0_t6
  let c4_i32_128 : BitVec 32 := 4#32
  let v126 : BitVec 32 := Scalar.muli arg16 c4_i32_128
  let v171 : BitVec 32 := Scalar.addi v126 c0_i32_142
  let v172 : Index := Scalar.indexCast v171
  let c64 : Index := 64#32
  ![v172.toNat, 64]
def k0_off48 (k0_t6 : Fin k0_t6_loop.trips) (c0_i32_145 : BitVec 32) : Fin 2 → Nat :=
  let c0_i32_99 : BitVec 32 := 0#32
  let c1_i32_101 : BitVec 32 := 1#32
  let arg16 : BitVec 32 := Scf.iv c0_i32_99 c1_i32_101 k0_t6
  let c4_i32_128 : BitVec 32 := 4#32
  let v126 : BitVec 32 := Scalar.muli arg16 c4_i32_128
  let v182 : BitVec 32 := Scalar.addi v126 c0_i32_145
  let v183 : Index := Scalar.indexCast v182
  let c80 : Index := 80#32
  ![v183.toNat, 80]
def k0_off49 (k0_t6 : Fin k0_t6_loop.trips) (c0_i32_148 : BitVec 32) : Fin 2 → Nat :=
  let c0_i32_99 : BitVec 32 := 0#32
  let c1_i32_101 : BitVec 32 := 1#32
  let arg16 : BitVec 32 := Scf.iv c0_i32_99 c1_i32_101 k0_t6
  let c4_i32_128 : BitVec 32 := 4#32
  let v126 : BitVec 32 := Scalar.muli arg16 c4_i32_128
  let v193 : BitVec 32 := Scalar.addi v126 c0_i32_148
  let v194 : Index := Scalar.indexCast v193
  let c96 : Index := 96#32
  ![v194.toNat, 96]
def k0_off50 (k0_t6 : Fin k0_t6_loop.trips) (c0_i32_151 : BitVec 32) : Fin 2 → Nat :=
  let c0_i32_99 : BitVec 32 := 0#32
  let c1_i32_101 : BitVec 32 := 1#32
  let arg16 : BitVec 32 := Scf.iv c0_i32_99 c1_i32_101 k0_t6
  let c4_i32_128 : BitVec 32 := 4#32
  let v126 : BitVec 32 := Scalar.muli arg16 c4_i32_128
  let v204 : BitVec 32 := Scalar.addi v126 c0_i32_151
  let v205 : Index := Scalar.indexCast v204
  let c112 : Index := 112#32
  ![v205.toNat, 112]
@[reducible] def k0_t7_loop : Scf.Loop 32 :=
  let c0_i32_114 : BitVec 32 := 0#32
  let c32_i32_115 : BitVec 32 := 32#32
  let v107 : BitVec 32 := Scalar.addi c0_i32_114 c32_i32_115
  let c1_i32_116 : BitVec 32 := 1#32
  ⟨c0_i32_114, v107, c1_i32_116⟩
def k0_off51 (k0_t7 : Fin k0_t7_loop.trips) (c0_i32_129 : BitVec 32) : Fin 2 → Nat :=
  let c0_i32_114 : BitVec 32 := 0#32
  let c1_i32_116 : BitVec 32 := 1#32
  let arg16 : BitVec 32 := Scf.iv c0_i32_114 c1_i32_116 k0_t7
  let c4_i32_128 : BitVec 32 := 4#32
  let v126 : BitVec 32 := Scalar.muli arg16 c4_i32_128
  let v127 : BitVec 32 := Scalar.addi v126 c0_i32_129
  let v128 : Index := Scalar.indexCast v127
  let c0_130 : Index := 0#32
  ![v128.toNat, 0]
def k0_off52 (k0_t7 : Fin k0_t7_loop.trips) (c0_i32_133 : BitVec 32) : Fin 2 → Nat :=
  let c0_i32_114 : BitVec 32 := 0#32
  let c1_i32_116 : BitVec 32 := 1#32
  let arg16 : BitVec 32 := Scf.iv c0_i32_114 c1_i32_116 k0_t7
  let c4_i32_128 : BitVec 32 := 4#32
  let v126 : BitVec 32 := Scalar.muli arg16 c4_i32_128
  let v138 : BitVec 32 := Scalar.addi v126 c0_i32_133
  let v139 : Index := Scalar.indexCast v138
  let c16 : Index := 16#32
  ![v139.toNat, 16]
def k0_off53 (k0_t7 : Fin k0_t7_loop.trips) (c0_i32_136 : BitVec 32) : Fin 2 → Nat :=
  let c0_i32_114 : BitVec 32 := 0#32
  let c1_i32_116 : BitVec 32 := 1#32
  let arg16 : BitVec 32 := Scf.iv c0_i32_114 c1_i32_116 k0_t7
  let c4_i32_128 : BitVec 32 := 4#32
  let v126 : BitVec 32 := Scalar.muli arg16 c4_i32_128
  let v149 : BitVec 32 := Scalar.addi v126 c0_i32_136
  let v150 : Index := Scalar.indexCast v149
  let c32 : Index := 32#32
  ![v150.toNat, 32]
def k0_off54 (k0_t7 : Fin k0_t7_loop.trips) (c0_i32_139 : BitVec 32) : Fin 2 → Nat :=
  let c0_i32_114 : BitVec 32 := 0#32
  let c1_i32_116 : BitVec 32 := 1#32
  let arg16 : BitVec 32 := Scf.iv c0_i32_114 c1_i32_116 k0_t7
  let c4_i32_128 : BitVec 32 := 4#32
  let v126 : BitVec 32 := Scalar.muli arg16 c4_i32_128
  let v160 : BitVec 32 := Scalar.addi v126 c0_i32_139
  let v161 : Index := Scalar.indexCast v160
  let c48 : Index := 48#32
  ![v161.toNat, 48]
def k0_off55 (k0_t7 : Fin k0_t7_loop.trips) (c0_i32_142 : BitVec 32) : Fin 2 → Nat :=
  let c0_i32_114 : BitVec 32 := 0#32
  let c1_i32_116 : BitVec 32 := 1#32
  let arg16 : BitVec 32 := Scf.iv c0_i32_114 c1_i32_116 k0_t7
  let c4_i32_128 : BitVec 32 := 4#32
  let v126 : BitVec 32 := Scalar.muli arg16 c4_i32_128
  let v171 : BitVec 32 := Scalar.addi v126 c0_i32_142
  let v172 : Index := Scalar.indexCast v171
  let c64 : Index := 64#32
  ![v172.toNat, 64]
def k0_off56 (k0_t7 : Fin k0_t7_loop.trips) (c0_i32_145 : BitVec 32) : Fin 2 → Nat :=
  let c0_i32_114 : BitVec 32 := 0#32
  let c1_i32_116 : BitVec 32 := 1#32
  let arg16 : BitVec 32 := Scf.iv c0_i32_114 c1_i32_116 k0_t7
  let c4_i32_128 : BitVec 32 := 4#32
  let v126 : BitVec 32 := Scalar.muli arg16 c4_i32_128
  let v182 : BitVec 32 := Scalar.addi v126 c0_i32_145
  let v183 : Index := Scalar.indexCast v182
  let c80 : Index := 80#32
  ![v183.toNat, 80]
def k0_off57 (k0_t7 : Fin k0_t7_loop.trips) (c0_i32_148 : BitVec 32) : Fin 2 → Nat :=
  let c0_i32_114 : BitVec 32 := 0#32
  let c1_i32_116 : BitVec 32 := 1#32
  let arg16 : BitVec 32 := Scf.iv c0_i32_114 c1_i32_116 k0_t7
  let c4_i32_128 : BitVec 32 := 4#32
  let v126 : BitVec 32 := Scalar.muli arg16 c4_i32_128
  let v193 : BitVec 32 := Scalar.addi v126 c0_i32_148
  let v194 : Index := Scalar.indexCast v193
  let c96 : Index := 96#32
  ![v194.toNat, 96]
def k0_off58 (k0_t7 : Fin k0_t7_loop.trips) (c0_i32_151 : BitVec 32) : Fin 2 → Nat :=
  let c0_i32_114 : BitVec 32 := 0#32
  let c1_i32_116 : BitVec 32 := 1#32
  let arg16 : BitVec 32 := Scf.iv c0_i32_114 c1_i32_116 k0_t7
  let c4_i32_128 : BitVec 32 := 4#32
  let v126 : BitVec 32 := Scalar.muli arg16 c4_i32_128
  let v204 : BitVec 32 := Scalar.addi v126 c0_i32_151
  let v205 : Index := Scalar.indexCast v204
  let c112 : Index := 112#32
  ![v205.toNat, 112]
@[reducible] def k0_t8_loop : Scf.Loop 32 :=
  let c0_i32_124 : BitVec 32 := 0#32
  let c32_i32_125 : BitVec 32 := 32#32
  let v114 : BitVec 32 := Scalar.addi c0_i32_124 c32_i32_125
  let c1_i32_126 : BitVec 32 := 1#32
  ⟨c0_i32_124, v114, c1_i32_126⟩
def k0_off59 (k0_t8 : Fin k0_t8_loop.trips) (c0_i32_129 : BitVec 32) : Fin 2 → Nat :=
  let c0_i32_124 : BitVec 32 := 0#32
  let c1_i32_126 : BitVec 32 := 1#32
  let arg16 : BitVec 32 := Scf.iv c0_i32_124 c1_i32_126 k0_t8
  let c4_i32_128 : BitVec 32 := 4#32
  let v126 : BitVec 32 := Scalar.muli arg16 c4_i32_128
  let v127 : BitVec 32 := Scalar.addi v126 c0_i32_129
  let v128 : Index := Scalar.indexCast v127
  let c0_130 : Index := 0#32
  ![v128.toNat, 0]
def k0_off60 (k0_t8 : Fin k0_t8_loop.trips) (c0_i32_133 : BitVec 32) : Fin 2 → Nat :=
  let c0_i32_124 : BitVec 32 := 0#32
  let c1_i32_126 : BitVec 32 := 1#32
  let arg16 : BitVec 32 := Scf.iv c0_i32_124 c1_i32_126 k0_t8
  let c4_i32_128 : BitVec 32 := 4#32
  let v126 : BitVec 32 := Scalar.muli arg16 c4_i32_128
  let v138 : BitVec 32 := Scalar.addi v126 c0_i32_133
  let v139 : Index := Scalar.indexCast v138
  let c16 : Index := 16#32
  ![v139.toNat, 16]
def k0_off61 (k0_t8 : Fin k0_t8_loop.trips) (c0_i32_136 : BitVec 32) : Fin 2 → Nat :=
  let c0_i32_124 : BitVec 32 := 0#32
  let c1_i32_126 : BitVec 32 := 1#32
  let arg16 : BitVec 32 := Scf.iv c0_i32_124 c1_i32_126 k0_t8
  let c4_i32_128 : BitVec 32 := 4#32
  let v126 : BitVec 32 := Scalar.muli arg16 c4_i32_128
  let v149 : BitVec 32 := Scalar.addi v126 c0_i32_136
  let v150 : Index := Scalar.indexCast v149
  let c32 : Index := 32#32
  ![v150.toNat, 32]
def k0_off62 (k0_t8 : Fin k0_t8_loop.trips) (c0_i32_139 : BitVec 32) : Fin 2 → Nat :=
  let c0_i32_124 : BitVec 32 := 0#32
  let c1_i32_126 : BitVec 32 := 1#32
  let arg16 : BitVec 32 := Scf.iv c0_i32_124 c1_i32_126 k0_t8
  let c4_i32_128 : BitVec 32 := 4#32
  let v126 : BitVec 32 := Scalar.muli arg16 c4_i32_128
  let v160 : BitVec 32 := Scalar.addi v126 c0_i32_139
  let v161 : Index := Scalar.indexCast v160
  let c48 : Index := 48#32
  ![v161.toNat, 48]
def k0_off63 (k0_t8 : Fin k0_t8_loop.trips) (c0_i32_142 : BitVec 32) : Fin 2 → Nat :=
  let c0_i32_124 : BitVec 32 := 0#32
  let c1_i32_126 : BitVec 32 := 1#32
  let arg16 : BitVec 32 := Scf.iv c0_i32_124 c1_i32_126 k0_t8
  let c4_i32_128 : BitVec 32 := 4#32
  let v126 : BitVec 32 := Scalar.muli arg16 c4_i32_128
  let v171 : BitVec 32 := Scalar.addi v126 c0_i32_142
  let v172 : Index := Scalar.indexCast v171
  let c64 : Index := 64#32
  ![v172.toNat, 64]
def k0_off64 (k0_t8 : Fin k0_t8_loop.trips) (c0_i32_145 : BitVec 32) : Fin 2 → Nat :=
  let c0_i32_124 : BitVec 32 := 0#32
  let c1_i32_126 : BitVec 32 := 1#32
  let arg16 : BitVec 32 := Scf.iv c0_i32_124 c1_i32_126 k0_t8
  let c4_i32_128 : BitVec 32 := 4#32
  let v126 : BitVec 32 := Scalar.muli arg16 c4_i32_128
  let v182 : BitVec 32 := Scalar.addi v126 c0_i32_145
  let v183 : Index := Scalar.indexCast v182
  let c80 : Index := 80#32
  ![v183.toNat, 80]
def k0_off65 (k0_t8 : Fin k0_t8_loop.trips) (c0_i32_148 : BitVec 32) : Fin 2 → Nat :=
  let c0_i32_124 : BitVec 32 := 0#32
  let c1_i32_126 : BitVec 32 := 1#32
  let arg16 : BitVec 32 := Scf.iv c0_i32_124 c1_i32_126 k0_t8
  let c4_i32_128 : BitVec 32 := 4#32
  let v126 : BitVec 32 := Scalar.muli arg16 c4_i32_128
  let v193 : BitVec 32 := Scalar.addi v126 c0_i32_148
  let v194 : Index := Scalar.indexCast v193
  let c96 : Index := 96#32
  ![v194.toNat, 96]
def k0_off66 (k0_t8 : Fin k0_t8_loop.trips) (c0_i32_151 : BitVec 32) : Fin 2 → Nat :=
  let c0_i32_124 : BitVec 32 := 0#32
  let c1_i32_126 : BitVec 32 := 1#32
  let arg16 : BitVec 32 := Scf.iv c0_i32_124 c1_i32_126 k0_t8
  let c4_i32_128 : BitVec 32 := 4#32
  let v126 : BitVec 32 := Scalar.muli arg16 c4_i32_128
  let v204 : BitVec 32 := Scalar.addi v126 c0_i32_151
  let v205 : Index := Scalar.indexCast v204
  let c112 : Index := 112#32
  ![v205.toNat, 112]
def k0_off67 (i : grid0.Coords) : Fin 2 → Nat :=
  let arg1 : BitVec 32 := BitVec.ofNat 32 (i 1).val
  let c1_i32 : BitVec 32 := 1#32
  let v0 : BitVec 32 := Scalar.muli arg1 c1_i32
  let arg0 : BitVec 32 := BitVec.ofNat 32 (i 0).val
  let v1 : BitVec 32 := Scalar.addi v0 arg0
  let c0_i32_128_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x128 : Shape := ⟨2, ![16384, 128]⟩
abbrev S16384 : Shape := ⟨1, ![16384]⟩
abbrev S1000x128 : Shape := ⟨2, ![1000, 128]⟩
abbrev S_ : Shape := ⟨0, ![]⟩
abbrev S16384x1 : Shape := ⟨2, ![16384, 1]⟩
abbrev S1 : Shape := ⟨1, ![1]⟩
abbrev S1x1 : Shape := ⟨2, ![1, 1]⟩

abbrev nBuf : Space → Nat
  | .hbm => 32
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384, .i32⟩
  | .hbm, ⟨2, _⟩ => ⟨S1000x128, .f32⟩
  | .hbm, ⟨3, _⟩ => ⟨S_, .i32⟩
  | .hbm, ⟨4, _⟩ => ⟨S16384, .i32⟩
  | .hbm, ⟨5, _⟩ => ⟨S16384, .i1⟩
  | .hbm, ⟨6, _⟩ => ⟨S_, .i32⟩
  | .hbm, ⟨7, _⟩ => ⟨S16384, .i32⟩
  | .hbm, ⟨8, _⟩ => ⟨S16384, .i32⟩
  | .hbm, ⟨9, _⟩ => ⟨S16384, .i32⟩
  | .hbm, ⟨10, _⟩ => ⟨S16384x1, .i32⟩
  | .hbm, ⟨11, _⟩ => ⟨S1, .i32⟩
  | .hbm, ⟨12, _⟩ => ⟨S_, .i32⟩
  | .hbm, ⟨13, _⟩ => ⟨S16384x1, .i32⟩
  | .hbm, ⟨14, _⟩ => ⟨S16384x1, .i1⟩
  | .hbm, ⟨15, _⟩ => ⟨S1x1, .i32⟩
  | .hbm, ⟨16, _⟩ => ⟨S16384x1, .i32⟩
  | .hbm, ⟨17, _⟩ => ⟨S16384x1, .i1⟩
  | .hbm, ⟨18, _⟩ => ⟨S16384x1, .i1⟩
  | .hbm, ⟨19, _⟩ => ⟨S_, .i1⟩
  | .hbm, ⟨20, _⟩ => ⟨S16384, .i1⟩
  | .hbm, ⟨21, _⟩ => ⟨S16384x128, .f32⟩
  | .hbm, ⟨22, _⟩ => ⟨S16384x128, .i1⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S16384x128, .f32⟩
  | .hbm, ⟨27, _⟩ => ⟨S16384x128, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_cst : Ref sig .tc := ⟨.hbm, 28, rfl⟩
abbrev main_v3 : Ref sig .tc := ⟨.hbm, 29, rfl⟩
abbrev main_cst_0 : Ref sig .tc := ⟨.hbm, 30, rfl⟩
abbrev main_v4 : Ref sig .tc := ⟨.hbm, 31, rfl⟩

abbrev nD : Nat := 1
abbrev τ : Topo := Topo.v7x

variable {F : FTy → Type} [FloatOps F]
-- ==== Proof.Base.lean ====
/-
  The kernel as the launch theorem sees it: its SparseCore call, the body table below it, the resource algebra, and the
  names of the arrays and scratch buffers that the other modules speak of.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open Idealize.SL.Sem
open Idealize.ShloMosaic.Rounds

variable {F : FTy → Type}

/-- The labels the program's calls go through, below the SparseCore launch. -/
abbrev ΛP : Labels := Pipeline.Sig Λ₀ (Fin 0) fun p => (pcfgs (F := F) p).Adm
/-- The one SparseCore call. -/
abbrev K [FloatOps F] : SparseCore.Cfg τ sig (ΛP (F := F)) 1 := sc (F := F)
/-- The body table below the launch. -/
abbrev D [FloatOps F] : Defs nD τ sig (Elt F) (ΛP (F := F)) := Pipeline.defs pcfgs defs₀
/-- No loop of the program needs a variant of its own. -/
abbrev 𝒱₀ : Variants := Variants.none
abbrev 𝒱 : Variants := 𝒱₀.lift
abbrev v₀ : 𝒱.V := Sum.inl none

/-- The launch's handshakes go through a rounds library, its transfers through counters. -/
abbrev UH : Type := URounds (GSem nD τ sig) ℕ
abbrev UU : Type := UH × Counters

/-- The resources an assertion speaks of. -/
abbrev MM (F : FTy → Type) : Type := MT nD τ sig (HIx 1) (Elt F) ℕ UU ℕ

/-- The handshakes' half of the resources. -/
abbrev EH : Emb UH (MT nD τ sig (HIx 1) (Elt F) ℕ UU ℕ) := embL

/-- The SparseCore and the tile that run the kernel at grid point `L`. -/
abbrev cV (L : grid0.Coords) : Fin τ.nSC := (L 0).castLE hcore0
abbrev jV (L : grid0.Coords) : Fin τ.nSub := (L 1).castLE hsub0
/-- That tile's thread on device `d`. -/
abbrev thr (d : Dev nD) (L : grid0.Coords) : Thread nD τ := V d (cV L) (jV L)

end Cert.Proof.Loss

end
-- ==== Proof.Trip.lean ====
/-
  One loop of the kernel: the sums of squared differences of a chunk of 128 rows, lane by lane. A trip takes four rows; in
  each row, for each of its eight blocks of sixteen lanes, it loads the block of the feature rows and the block of the
  gathered rows and adds the square of their difference to that block's accumulator. The eight loops of the kernel are this
  one loop on one or the other of the two pairs of buffers.
-/
module

public import Idealize.ShloMosaic.Lib.Pipeline.Value
public import proofs.«01_k».proof.Proof.Base

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
local notation "𝕄" => MT nD τ sig (HIx 1) (Elt F) ℕ UU ℕ

/-- The word of a 128 × 128 buffer at a row and a column given as numbers. -/
def at2 (row col : ℕ) : S128x128.Idx
  | 0 => ⟨row % 128, Nat.mod_lt _ (by decide)⟩
  | 1 => ⟨col % 128, Nat.mod_lt _ (by decide)⟩
  | ⟨_ + 2, h⟩ => absurd h (Nat.not_lt.2 (Nat.le_add_left _ _))

/-- Block `j` of sixteen lanes of row `row`. -/
def lanes (X : S128x128.Idx → Elt F .f32) (row : ℕ) (j : Fin 8) : FVec F S16 .f32 := fun x => X (at2 row (16 * j.val + (x 0).val))

/-- An accumulator and the square of the difference of two vectors of lanes. -/
def sqAdd (u v a : FVec F S16 .f32) : FVec F S16 .f32 := addf a (mulf (subf u v) (subf u v))

/-- Block `j`'s accumulator after the first `n` rows of a chunk, the feature rows being `X` and the gathered ones `Y`. -/
def accum (X Y : S128x128.Idx → Elt F .f32) (j : Fin 8) (a : FVec F S16 .f32) : ℕ → FVec F S16 .f32
  | 0 => a
  | n + 1 => sqAdd (lanes X n j) (lanes Y n j) (accum X Y j a n)

/-- Eight accumulators as the loop carries them. -/
abbrev Accs (F : FTy → Type) : Type :=
  FVec F S16 .f32 × FVec F S16 .f32 × FVec F S16 .f32 × FVec F S16 .f32 × FVec F S16 .f32 × FVec F S16 .f32 × FVec F S16 .f32 × FVec F S16 .f32

/-- The accumulators of the eight blocks, as the loop carries them. -/
def tup (g : Fin 8 → FVec F S16 .f32) : Accs F := (g 0, g 1, g 2, g 3, g 4, g 5, g 6, g 7)

/-- What a load of sixteen words of one row returns, as a vector of lanes. -/
def loaded (X : S128x128.Idx → Elt F .f32) (off : Fin 2 → ℕ) (h : ∀ a, off a + S1x16.size a ≤ S128x128.size a) : FVec F S16 .f32 :=
  shapeCast S16 (fun x => X ((Rect.unit (s := S128x128) off S1x16.size h).emb x)) shapeCasts_S1x16_S16

omit [FloatOps F] in
/-- A load at row `row` and column `16 j` is that row's block `j`. -/
theorem loaded_eq (X : S128x128.Idx → Elt F .f32) (off : Fin 2 → ℕ) (h : ∀ a, off a + S1x16.size a ≤ S128x128.size a) (row : ℕ) (j : Fin 8)
    (e : off = ![row, 16 * j.val]) (hr : row < 128) : loaded X off h = lanes X row j := by
  subst e
  funext x
  have hk := shapeCast_apply (t := S16) (fun y => X ((Rect.unit (s := S128x128) ![row, 16 * j.val] S1x16.size h).emb y)) shapeCasts_S1x16_S16 x
    (fun | 0 => ⟨0, Nat.one_pos⟩ | 1 => ⟨(x 0).val, (x 0).isLt⟩ | ⟨_ + 2, h⟩ => absurd h (Nat.not_lt.2 (Nat.le_add_left _ _)))
    (by rw [Shape.rowMajor_val_two, Shape.rowMajor_val_one]; show 0 * 16 + (x 0).val = (x 0).val; omega)
  refine hk.trans (congrArg X ?_)
  funext a
  have hx : (x 0).val < 16 := (x 0).isLt
  have hj := j.isLt
  match a with
  | 0 => exact Fin.ext (by simp [at2, Rect.unit, Rect.emb, Nat.mod_eq_of_lt hr])
  | 1 => exact Fin.ext (by simp [at2, Rect.unit, Rect.emb]; omega)

/-- One block's part of a trip: the four rows' loads, at offsets in closed form, take the accumulator four rows on. -/
theorem four_rows (X Y : S128x128.Idx → Elt F .f32) (off : BitVec 32 → Fin 2 → ℕ)
    (h : ∀ (r : Fin 4) a, off (BitVec.ofNat 32 r.val) a + S1x16.size a ≤ S128x128.size a) (k : ℕ) (hk : k < 32) (j : Fin 8)
    (e : ∀ r : Fin 4, off (BitVec.ofNat 32 r.val) = ![4 * k + r.val, 16 * j.val]) (a : FVec F S16 .f32) :
    sqAdd (loaded X (off 3#32) (h 3)) (loaded Y (off 3#32) (h 3))
      (sqAdd (loaded X (off 2#32) (h 2)) (loaded Y (off 2#32) (h 2))
        (sqAdd (loaded X (off 1#32) (h 1)) (loaded Y (off 1#32) (h 1))
          (sqAdd (loaded X (off 0#32) (h 0)) (loaded Y (off 0#32) (h 0)) (accum X Y j a (4 * k)))))
      = accum X Y j a (4 * (k + 1)) := by
  have e3 : ∀ Z : S128x128.Idx → Elt F .f32, loaded Z (off 3#32) (h 3) = lanes Z (4 * k + 3) j := fun Z => loaded_eq Z _ _ _ j (e 3) (by omega)
  have e2 : ∀ Z : S128x128.Idx → Elt F .f32, loaded Z (off 2#32) (h 2) = lanes Z (4 * k + 2) j := fun Z => loaded_eq Z _ _ _ j (e 2) (by omega)
  have e1 : ∀ Z : S128x128.Idx → Elt F .f32, loaded Z (off 1#32) (h 1) = lanes Z (4 * k + 1) j := fun Z => loaded_eq Z _ _ _ j (e 1) (by omega)
  have e0 : ∀ Z : S128x128.Idx → Elt F .f32, loaded Z (off 0#32) (h 0) = lanes Z (4 * k) j := fun Z => loaded_eq Z _ _ _ j (e 0) (by omega)
  rw [e3, e3, e2, e2, e1, e1, e0, e0]
  rfl

section Loop

local notation "fW" => (Memref.whole Cert.KernelIdeal.main_arg0_scv : Memref Cert.KernelIdeal.sig Kind.scVector Space.hbm Cert.KernelIdeal.S16384x128 EltTy.f32)
local notation "lW" => (Memref.whole Cert.KernelIdeal.main_v0_scv : Memref Cert.KernelIdeal.sig Kind.scVector Space.hbm Cert.KernelIdeal.S128x128 EltTy.i32)
local notation "cW" => (Memref.whole Cert.KernelIdeal.main_arg2_scv : Memref Cert.KernelIdeal.sig Kind.scVector Space.hbm Cert.KernelIdeal.S1000x128 EltTy.f32)
local notation "oW" => (Memref.whole Cert.KernelIdeal.main_v1_scv : Memref Cert.KernelIdeal.sig Kind.scVector Space.hbm Cert.KernelIdeal.S16x16 EltTy.f32)
local notation "iW" => (Memref.whole Cert.KernelIdeal.cc0_scratch0 : Memref Cert.KernelIdeal.sig Kind.scVector Space.vmem Cert.KernelIdeal.S8x128 EltTy.i32)
local notation "aW" => (Memref.whole Cert.KernelIdeal.cc0_scratch5 : Memref Cert.KernelIdeal.sig Kind.scVector Space.vmem Cert.KernelIdeal.S16 EltTy.f32)

variable (d : Dev nD) (i : grid0.Coords)

/-- A trip of the loop on the pair of buffers `rv` (gathered rows) and `fv` (feature rows). -/
def trip (rv : Memref sig .scVector .vmem S128x128 .f32) (hr : rv.IsWhole) (fv : Memref sig .scVector .vmem S128x128 .f32) (hf : fv.IsWhole) :
    Fin k0_t1_loop.trips → Accs F → Prog (TpuEff nD τ sig (Elt F) Λ₀ (.scVector (cV i) (jV i))) (Accs F) :=
  k0_t1_body i fW (Memref.isWhole_whole _) lW (Memref.isWhole_whole _) cW (Memref.isWhole_whole _) oW (Memref.isWhole_whole _) iW (Memref.isWhole_whole _)
    rv hr rv hr fv hf fv hf aW (Memref.isWhole_whole _) cc0_scratch6 cc0_scratch7 cc0_scratch8 cc0_scratch9 cc0_scoped0 cc0_scoped1 0#32
    (fun _ => Scalar.ofBits .f32 0#32) (fun _ => Scalar.ofBits .f32 0#32) (fun _ => Scalar.ofBits .f32 0#32) (fun _ => Scalar.ofBits .f32 0#32) (fun _ => Scalar.ofBits .f32 0#32)
    (Scalar.ofBits .f32 0#32)

set_option maxHeartbeats 4000000 in
/-- A trip, its two buffers held: it takes every accumulator four rows on and leaves the buffers as they were. -/
theorem trip_run (rv : Memref sig .scVector .vmem S128x128 .f32) (hr : rv.IsWhole) (fv : Memref sig .scVector .vmem S128x128 .f32) (hf : fv.IsWhole)
    (f : Buf (Elt F) (fv.view.loc (thr d i))) (r : Buf (Elt F) (rv.view.loc (thr d i)))
    (k : Fin k0_t1_loop.trips) (g : Fin 8 → FVec F S16 .f32) :
    iprop((fv.view.loc (thr d i) ↦[fv.view.set]{fullShare} f) ∗ (rv.view.loc (thr d i) ↦[rv.view.set]{fullShare} r))
      ⊢ (wp frame (wpE (defs₀ (F := F)) 𝒱₀ (thr d i) none) Set.univ
          (trip i rv hr fv hf k (tup fun j => accum (fv.view.read (Elt F) f) (rv.view.read (Elt F) r) j (g j) (4 * k.val)))
          fun a => iprop(⌜a = tup fun j => accum (fv.view.read (Elt F) f) (rv.view.read (Elt F) r) j (g j) (4 * (k.val + 1))⌝
            ∗ (fv.view.loc (thr d i) ↦[fv.view.set]{fullShare} f) ∗ (rv.view.loc (thr d i) ↦[rv.view.set]{fullShare} r)) : sProp 𝕄) := by
  have hk : k.val < 32 := Nat.lt_of_lt_of_le k.isLt k0_t1_abs.2.1
  iintro ⟨Hf, Hr⟩
  unfold trip k0_t1_body tup
  sl_exec
  sl_step
  isplitr
  · ipureintro
    exact Prod.ext (four_rows _ _ (k0_off3 k) (k0_off3_inb k) k.val hk 0 (k0_off3_eq k) (g 0))
      (Prod.ext (four_rows _ _ (k0_off4 k) (k0_off4_inb k) k.val hk 1 (k0_off4_eq k) (g 1))
      (Prod.ext (four_rows _ _ (k0_off5 k) (k0_off5_inb k) k.val hk 2 (k0_off5_eq k) (g 2))
      (Prod.ext (four_rows _ _ (k0_off6 k) (k0_off6_inb k) k.val hk 3 (k0_off6_eq k) (g 3))
      (Prod.ext (four_rows _ _ (k0_off7 k) (k0_off7_inb k) k.val hk 4 (k0_off7_eq k) (g 4))
      (Prod.ext (four_rows _ _ (k0_off8 k) (k0_off8_inb k) k.val hk 5 (k0_off8_eq k) (g 5))
      (Prod.ext (four_rows _ _ (k0_off9 k) (k0_off9_inb k) k.val hk 6 (k0_off9_eq k) (g 6))
        (four_rows _ _ (k0_off10 k) (k0_off10_inb k) k.val hk 7 (k0_off10_eq k) (g 7))))))))
  isplitl [Hf]; · iexact Hf
  iexact Hr

/-- The loop at the head of a program: the accumulators go through all 128 rows. -/
theorem loop_run (rv : Memref sig .scVector .vmem S128x128 .f32) (hr : rv.IsWhole) (fv : Memref sig .scVector .vmem S128x128 .f32) (hf : fv.IsWhole)
    (f : Buf (Elt F) (fv.view.loc (thr d i))) (r : Buf (Elt F) (rv.view.loc (thr d i))) (g : Fin 8 → FVec F S16 .f32)
    {β : Type} {kk : Accs F → Prog (TpuEff nD τ sig (Elt F) Λ₀ (.scVector (cV i) (jV i))) β} {Q : β → sProp 𝕄} :
    iprop((fv.view.loc (thr d i) ↦[fv.view.set]{fullShare} f) ∗ (rv.view.loc (thr d i) ↦[rv.view.set]{fullShare} r))
      ⊢ iprop((((fv.view.loc (thr d i) ↦[fv.view.set]{fullShare} f) ∗ (rv.view.loc (thr d i) ↦[rv.view.set]{fullShare} r))
            -∗ wp frame (wpE (defs₀ (F := F)) 𝒱₀ (thr d i) none) Set.univ
                (kk (tup fun j => accum (fv.view.read (Elt F) f) (rv.view.read (Elt F) r) j (g j) 128)) Q)
          -∗ wp frame (wpE (defs₀ (F := F)) 𝒱₀ (thr d i) none) Set.univ
              (Scf.Loop.for k0_t1_loop k0_t1_ok (tup g) (trip i rv hr fv hf) >>= kk) Q) := by
  have ht : k0_t1_loop.trips = 32 := by decide
  iintro ⟨Hf, Hr⟩ HK
  iapply (Scf.wp_for_bind _ _ _ _ _ _ _ _ _ (fun n a => iprop(⌜a = tup fun j => accum (fv.view.read (Elt F) f) (rv.view.read (Elt F) r) j (g j) (4 * n)⌝
      ∗ (fv.view.loc (thr d i) ↦[fv.view.set]{fullShare} f) ∗ (rv.view.loc (thr d i) ↦[rv.view.set]{fullShare} r))) ?_) $$ [Hf Hr]
  · intro k a
    iintro ⟨%ha, H⟩
    subst ha
    iapply (trip_run d i rv hr fv hf f r k g); iexact H
  · isplitr; · ipureintro; rfl
    isplitl [Hf]; · iexact Hf
    iexact Hr
  iintro %a ⟨%ha, H⟩
  have hn : 4 * Scf.trips k0_t1_loop.lb k0_t1_loop.ub k0_t1_loop.st = 128 := by
    have : Scf.trips k0_t1_loop.lb k0_t1_loop.ub k0_t1_loop.st = 32 := ht
    omega
  rw [hn] at ha
  subst ha
  iapply HK; iexact H

end Loop

end Cert.Proof.Loss

end
-- ==== Proof.Chunk.lean ====
/-
  What the chunks of a tile hold, and the loop on them. Tile `w` works on 1024 rows, eight chunks of 128: its feature rows
  are rows `1024 w + 128 c + r` of the features, and its gathered rows the centers its labels name. The reads the kernel
  makes of its copies are these values, and the loop takes the accumulators from one chunk to the next.
-/
module

public import proofs.«01_k».proof.Proof.Trip

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
local notation "𝕄" => MT nD τ sig (HIx 1) (Elt F) ℕ UU ℕ

local notation "fW" => (Memref.whole Cert.KernelIdeal.main_arg0_scv : Memref Cert.KernelIdeal.sig Kind.scVector Space.hbm Cert.KernelIdeal.S16384x128 EltTy.f32)
local notation "lW" => (Memref.whole Cert.KernelIdeal.main_v0_scv : Memref Cert.KernelIdeal.sig Kind.scVector Space.hbm Cert.KernelIdeal.S128x128 EltTy.i32)
local notation "cW" => (Memref.whole Cert.KernelIdeal.main_arg2_scv : Memref Cert.KernelIdeal.sig Kind.scVector Space.hbm Cert.KernelIdeal.S1000x128 EltTy.f32)
local notation "oW" => (Memref.whole Cert.KernelIdeal.main_v1_scv : Memref Cert.KernelIdeal.sig Kind.scVector Space.hbm Cert.KernelIdeal.S16x16 EltTy.f32)
local notation "iW" => (Memref.whole Cert.KernelIdeal.cc0_scratch0 : Memref Cert.KernelIdeal.sig Kind.scVector Space.vmem Cert.KernelIdeal.S8x128 EltTy.i32)
local notation "rW0" => (Memref.whole Cert.KernelIdeal.cc0_scratch1 : Memref Cert.KernelIdeal.sig Kind.scVector Space.vmem Cert.KernelIdeal.S128x128 EltTy.f32)
local notation "rW1" => (Memref.whole Cert.KernelIdeal.cc0_scratch2 : Memref Cert.KernelIdeal.sig Kind.scVector Space.vmem Cert.KernelIdeal.S128x128 EltTy.f32)
local notation "xW0" => (Memref.whole Cert.KernelIdeal.cc0_scratch3 : Memref Cert.KernelIdeal.sig Kind.scVector Space.vmem Cert.KernelIdeal.S128x128 EltTy.f32)
local notation "xW1" => (Memref.whole Cert.KernelIdeal.cc0_scratch4 : Memref Cert.KernelIdeal.sig Kind.scVector Space.vmem Cert.KernelIdeal.S128x128 EltTy.f32)
local notation "aW" => (Memref.whole Cert.KernelIdeal.cc0_scratch5 : Memref Cert.KernelIdeal.sig Kind.scVector Space.vmem Cert.KernelIdeal.S16 EltTy.f32)

/-! ## The arrays -/

/-- The features, the labels in rows of 128, the centers and the table of partial sums, on device `d`. -/
abbrev fLoc (d : Dev nD) : Loc nD τ sig := (SparseCore.T d).loc main_arg0
abbrev lLoc (d : Dev nD) : Loc nD τ sig := (SparseCore.T d).loc main_v0
abbrev cLoc (d : Dev nD) : Loc nD τ sig := (SparseCore.T d).loc main_arg2
abbrev oLoc (d : Dev nD) : Loc nD τ sig := (SparseCore.T d).loc main_v1

/-! ## Values -/

/-- A word of the features at a row and a column given as numbers. -/
def fAt (row col : ℕ) : S16384x128.Idx
  | 0 => ⟨row % 16384, Nat.mod_lt _ (by decide)⟩
  | 1 => ⟨col % 128, Nat.mod_lt _ (by decide)⟩
  | ⟨_ + 2, h⟩ => absurd h (Nat.not_lt.2 (Nat.le_add_left _ _))

/-- A word of the centers at a row and a column given as numbers. -/
def cAt (row col : ℕ) : S1000x128.Idx
  | 0 => ⟨row % 1000, Nat.mod_lt _ (by decide)⟩
  | 1 => ⟨col % 128, Nat.mod_lt _ (by decide)⟩
  | ⟨_ + 2, h⟩ => absurd h (Nat.not_lt.2 (Nat.le_add_left _ _))

/-- The feature rows of tile `w`'s chunk `c`. -/
def fChunk (fe : S16384x128.Idx → Elt F .f32) (w c : ℕ) : S128x128.Idx → Elt F .f32 :=
  fun x => fe (fAt (1024 * w + 128 * c + (x 0).val) (x 1).val)

/-- The labels of tile `w`, eight lists of 128. -/
def labs (la : S128x128.Idx → Elt F .i32) (w : ℕ) : S8x128.Idx → Elt F .i32 := fun x => la (at2 (8 * w + (x 0).val) (x 1).val)

/-- The centers named by the labels of tile `w`'s chunk `c`, a row for each. -/
def cChunk (la : S128x128.Idx → Elt F .i32) (ce : S1000x128.Idx → Elt F .f32) (w c : ℕ) : S128x128.Idx → Elt F .f32 :=
  fun x => ce (cAt (BitVec.toNat (w := 32) (la (at2 (8 * w + c) (x 0).val))) (x 1).val)

section Values
variable (fe : S16384x128.Idx → Elt F .f32) (la : S128x128.Idx → Elt F .i32) (ce : S1000x128.Idx → Elt F .f32) (w : ℕ)

/-- Tile `w`'s accumulators after its first `c` chunks. -/
def acc : ℕ → Fin 8 → FVec F S16 .f32
  | 0 => fun _ _ => Scalar.ofBits .f32 0#32
  | c + 1 => fun j => accum (fChunk fe w c) (cChunk la ce w c) j (acc c j) 128

/-- Tile `w`'s row of partial sums: its eight accumulators added up, lane by lane. -/
def partRow : FVec F S16 .f32 :=
  k0_pay2 (acc fe la ce w 8 0) (acc fe la ce w 8 1) (acc fe la ce w 8 2) (acc fe la ce w 8 3) (acc fe la ce w 8 4) (acc fe la ce w 8 5) (acc fe la ce w 8 6)
    (acc fe la ce w 8 7)

/-- The table of partial sums, a row for each tile. -/
def partials : S16x16.Idx → Elt F .f32 := fun y => partRow fe la ce (y 0).val fun | 0 => y 1

end Values

section Reads

variable (d : Dev nD) (L : grid0.Coords)

omit [FloatOps F] in
theorem core_zero : (L 0).val = 0 := by
  have h : (L 0).val < 1 := (L 0).isLt
  omega
omit [FloatOps F] in
theorem tile_lt : (L 1).val < 16 := (L 1).isLt

/-- Row `c` of the tile's label lists, as the tile addresses it. -/
abbrev iRow (c : ℕ) (h : ∀ a, (![c, 0] : Fin 2 → ℕ) a + S1x128.size a ≤ S8x128.size a) : Memref sig .scVector .vmem S128 .i32 :=
  ((iW).slice (Rect.unit (s := S8x128) ![c, 0] S1x128.size h) (fun _ => rfl)).squeeze S128 squeezes_S1x128_S128

/-- All of the centers, as the tile addresses them. -/
abbrev cAll : Memref sig .scVector .hbm S1000x128 .f32 :=
  (cW).slice (Rect.unit (s := S1000x128) ![0, 0] S1000x128.size inb_S1000x128_S1000x128_0_0) (fun _ => rfl)

/-- Row `L 1` of the table of partial sums, as the tile addresses it. -/
abbrev oRowK : Memref sig .scVector .hbm S16 .f32 :=
  ((oW).slice (Rect.unit (s := S16x16) (k0_off67 L) S1x16.size (k0_off67_inb L)) (fun _ => rfl)).squeeze S16 squeezes_S1x16_S16

omit [FloatOps F] in
/-- The tile's read of chunk `c` of its feature rows. -/
theorem fRead (fe : S16384x128.Idx → Elt F .f32) (c : Fin 8) (h : ∀ a, k0_off2 L (BitVec.ofNat 32 (128 * c.val)) a + S128x128.size a ≤ S16384x128.size a) :
    ((fW).slice (Rect.unit (s := S16384x128) (k0_off2 L (BitVec.ofNat 32 (128 * c.val))) S128x128.size h) (fun _ => rfl)).view.read (Elt F) fe
      = fChunk fe (L 1).val c.val := by
  funext x
  refine ((View.read_apply _ _).trans (cast_eq _ _)).trans (congrArg fe ?_)
  have e := k0_off2_eq L c
  have h0 := core_zero L; have h1 := tile_lt L
  have hx : (x 0).val < 128 := (x 0).isLt
  have hx1 : (x 1).val < 128 := (x 1).isLt
  funext a
  match a with
  | 0 =>
    refine Fin.ext ?_
    show k0_off2 L (BitVec.ofNat 32 (128 * c.val)) 0 + 1 * (x 0).val = (1024 * (L 1).val + 128 * c.val + (x 0).val) % 16384
    rw [congrFun e 0]; simp; omega
  | 1 =>
    refine Fin.ext ?_
    show k0_off2 L (BitVec.ofNat 32 (128 * c.val)) 1 + 1 * (x 1).val = (x 1).val % 128
    rw [congrFun e 1]; simp; omega

omit [FloatOps F] in
/-- The tile's read of its block of labels. -/
theorem lRead (la : S128x128.Idx → Elt F .i32) (h : ∀ a, k0_off1 L a + S8x128.size a ≤ S128x128.size a) :
    ((lW).slice (Rect.unit (s := S128x128) (k0_off1 L) S8x128.size h) (fun _ => rfl)).view.read (Elt F) la = labs la (L 1).val := by
  funext x
  refine ((View.read_apply _ _).trans (cast_eq _ _)).trans (congrArg la ?_)
  have e := k0_off1_eq L
  have h0 := core_zero L; have h1 := tile_lt L
  have hx : (x 0).val < 8 := (x 0).isLt
  have hx1 : (x 1).val < 128 := (x 1).isLt
  funext a
  match a with
  | 0 =>
    refine Fin.ext ?_
    show k0_off1 L 0 + 1 * (x 0).val = (8 * (L 1).val + (x 0).val) % 128
    rw [congrFun e 0]; simp; omega
  | 1 =>
    refine Fin.ext ?_
    show k0_off1 L 1 + 1 * (x 1).val = (x 1).val % 128
    rw [congrFun e 1]; simp; omega

omit [FloatOps F] in
/-- List `c`'s word `x` as the tile reads it. -/
theorem iRow_read (ib : S8x128.Idx → Elt F .i32) (c : ℕ) (h) (x : S128.Idx) (y : S8x128.Idx) (h0 : (y 0).val = c) (h1 : (y 1).val = (x 0).val) :
    (iRow c h).view.read (Elt F) ib x = ib y := by
  have hx : (x 0).val < 128 := (x 0).isLt
  have hz : Shape.reshapeEquiv (s := S1x128) squeezes_S1x128_S128.numel_eq x
      = (fun | 0 => ⟨0, Nat.one_pos⟩ | 1 => ⟨(x 0).val, (x 0).isLt⟩ | ⟨_ + 2, h⟩ => absurd h (Nat.not_lt.2 (Nat.le_add_left _ _))) :=
    Shape.reshapeEquiv_eq_of_rowMajor _ (by
      rw [Shape.rowMajor_val_two, Shape.rowMajor_val_one]; show 0 * 128 + (x 0).val = (x 0).val; omega)
  refine ((View.read_apply _ _).trans (cast_eq _ _)).trans (congrArg ib ?_)
  show (Rect.unit (s := S8x128) ![c, 0] S1x128.size h).emb (Shape.reshapeEquiv (s := S1x128) squeezes_S1x128_S128.numel_eq x) = y
  rw [hz]
  funext a
  match a with
  | 0 => exact Fin.ext (show c + 1 * 0 = (y 0).val by omega)
  | 1 => exact Fin.ext (show 0 + 1 * (x 0).val = (y 1).val by omega)

omit [FloatOps F] in
/-- Every label a tile copies is below the number of centers, so each of its lists' words is a row of them. -/
theorem hin (la : S128x128.Idx → Elt F .i32) (hla : ∀ x, BitVec.toNat (w := 32) (la x) < 1000) (w c : ℕ) (h) :
    ∀ x, ((iRow c h).view.read (Elt F) (labs la w) x).toNat < S1000x128.size gathers_S1000x128_S128x128.axis := by
  intro x
  rw [show (iRow c h).view.read (Elt F) (labs la w) x = labs la w ((iRow c h).view.emb x) from (View.read_apply _ _).trans (cast_eq _ _)]
  exact hla _

omit [FloatOps F] in
/-- What the gather over list `c` brings: the centers of chunk `c`. -/
theorem gRead (la : S128x128.Idx → Elt F .i32) (ce : S1000x128.Idx → Elt F .f32) (w : ℕ) (c : ℕ) (h) (hn)
    (hi : ∀ x, ((iRow c h).view.read (Elt F) (labs la w) x).toNat < S1000x128.size gathers_S1000x128_S128x128.axis) :
    SparseCore.gatherPayload gathers_S1000x128_S128x128 ((cAll).view.read (Elt F) ce) (SparseCore.rows ((iRow c h).view.read (Elt F) (labs la w)) hn hi)
      = cChunk la ce w c := by
  funext x
  have hx0 : (x 0).val < 128 := (x 0).isLt
  have hx1 : (x 1).val < 128 := (x 1).isLt
  refine ((View.read_apply _ _).trans (cast_eq _ _)).trans (congrArg ce ?_)
  have hc8 : c < 8 := by have := h 0; simp at this; omega
  have hrow : ∀ k : Fin 128, (SparseCore.rows ((iRow c h).view.read (Elt F) (labs la w)) hn hi k).val
      = BitVec.toNat (w := 32) (la (at2 (8 * w + c) k.val)) := by
    intro k
    have hk : ((S128.rowMajor.symm (k.cast hn.symm)) 0).val = k.val := by
      rw [← Shape.rowMajor_val_one, Equiv.apply_symm_apply]; rfl
    show BitVec.toNat (w := 32) ((iRow c h).view.read (Elt F) (labs la w) (S128.rowMajor.symm (k.cast hn.symm))) = _
    rw [iRow_read (labs la w) c h _ (fun | 0 => ⟨c, hc8⟩ | 1 => ⟨k.val, k.isLt⟩ | ⟨_ + 2, h⟩ => absurd h (Nat.not_lt.2 (Nat.le_add_left _ _))) rfl hk.symm]
    rfl
  have hlt : BitVec.toNat (w := 32) (la (at2 (8 * w + c) (x 0).val)) < 1000 := by
    rw [← hrow ⟨(x 0).val, hx0⟩]; exact Fin.isLt _
  funext a
  match a with
  | 0 =>
    refine Fin.ext ?_
    show 0 + 1 * (gathers_S1000x128_S128x128.idx _ x gathers_S1000x128_S128x128.axis).val = _ % 1000
    rw [Shape.Gathers.idx_axis, Nat.mod_eq_of_lt hlt]
    exact (by omega : ∀ n, 0 + 1 * n = n) _ ▸ hrow ⟨(x 0).val, hx0⟩
  | 1 =>
    refine Fin.ext ?_
    show 0 + 1 * (gathers_S1000x128_S128x128.idx _ x 1).val = (x 1).val % 128
    rw [Shape.Gathers.idx_of_ne _ _ _ _ (by decide), Nat.mod_eq_of_lt hx1]
    show 0 + 1 * (x 1).val = (x 1).val
    omega

omit [FloatOps F] in
/-- A whole buffer reads as the last payload written over all of it. -/
theorem read_last (v : View sig .scVector .vmem S128x128 .f32) (b : v.ty.Contents (Elt F)) (p : S128x128.Idx → Elt F .f32) (W : List (View.Piece (Elt F) S128x128 .f32)) :
    v.read (Elt F) (v.writes (Elt F) b (⟨Rect.whole S128x128, p⟩ :: W)) = p := by
  funext x
  have h := View.read_writes_cons_emb v b (Rect.whole S128x128) p W x
  rw [Rect.emb_whole_apply] at h
  exact h

omit [FloatOps F] in
/-- Lane `x` of the tile's row of the table is the table's word at row `L 1`, column `x`. -/
theorem oRowK_emb (x : S16.Idx) : ((oRowK L).view.emb x : S16x16.Idx) = (fun | 0 => ⟨(L 1).val, tile_lt L⟩ | 1 => x 0 | ⟨_ + 2, h⟩ => absurd h (Nat.not_lt.2 (Nat.le_add_left _ _))) := by
  have hx : (x 0).val < 16 := (x 0).isLt
  have hz : Shape.reshapeEquiv (s := S1x16) squeezes_S1x16_S16.numel_eq x
      = (fun | 0 => ⟨0, Nat.one_pos⟩ | 1 => ⟨(x 0).val, (x 0).isLt⟩ | ⟨_ + 2, h⟩ => absurd h (Nat.not_lt.2 (Nat.le_add_left _ _))) :=
    Shape.reshapeEquiv_eq_of_rowMajor _ (by
      rw [Shape.rowMajor_val_two, Shape.rowMajor_val_one]; show 0 * 16 + (x 0).val = (x 0).val; omega)
  show (Rect.unit (s := S16x16) (k0_off67 L) S1x16.size (k0_off67_inb L)).emb (Shape.reshapeEquiv (s := S1x16) squeezes_S1x16_S16.numel_eq x) = _
  rw [hz]
  have e := k0_off67_eq L
  have h0 := core_zero L
  funext a
  match a with
  | 0 => exact Fin.ext (by show k0_off67 L 0 + 1 * 0 = (L 1).val; rw [congrFun e 0]; simp; omega)
  | 1 => exact Fin.ext (by show k0_off67 L 1 + 1 * (x 0).val = (x 0).val; rw [congrFun e 1]; simp)

/-- The tile's row once its partial sums are copied to it: the table's row. -/
theorem row_written (fe : S16384x128.Idx → Elt F .f32) (la : S128x128.Idx → Elt F .i32) (ce : S1000x128.Idx → Elt F .f32) (o : S16x16.Idx → Elt F .f32)
    (p : S16.Idx → Elt F .f32) (hp : p = partRow fe la ce (L 1).val) :
    ∀ i ∈ (oRowK L).view.set, ((oRowK L).view.writes (Elt F) o [⟨Rect.whole S16, p⟩] : S16x16.Idx → Elt F .f32) i = partials fe la ce i := by
  intro i hi
  obtain ⟨x, -, rfl⟩ := Finset.mem_map.mp hi
  have h := View.read_writes_cons_emb (oRowK L).view o (Rect.whole S16) p [] x
  rw [Rect.emb_whole_apply] at h
  refine (((View.read_apply _ _).trans (cast_eq _ _)).symm.trans h).trans ?_
  rw [hp, oRowK_emb]
  exact congrArg (partRow fe la ce (L 1).val) (funext fun a => match a with | 0 => rfl)

/-- The loop on chunk `c`: whatever buffers hold its feature rows and its centers, it takes the accumulators past it. -/
theorem loop_chunk (d : Dev nD) (i : grid0.Coords) (rv : Memref sig .scVector .vmem S128x128 .f32) (hr : rv.IsWhole) (fv : Memref sig .scVector .vmem S128x128 .f32) (hf : fv.IsWhole)
    (fe : S16384x128.Idx → Elt F .f32) (la : S128x128.Idx → Elt F .i32) (ce : S1000x128.Idx → Elt F .f32) (w c : ℕ)
    (f : Buf (Elt F) (fv.view.loc (thr d i))) (r : Buf (Elt F) (rv.view.loc (thr d i)))
    (hX : fv.view.read (Elt F) f = fChunk fe w c) (hY : rv.view.read (Elt F) r = cChunk la ce w c)
    {A : Type} (kk : Accs F → Prog (TpuEff nD τ sig (Elt F) Λ₀ (.scVector (cV i) (jV i))) A) (Q : A → sProp 𝕄) :
    iprop((fv.view.loc (thr d i) ↦{fullShare} f) ∗ (rv.view.loc (thr d i) ↦{fullShare} r))
      ⊢ iprop((((∃ f, fv.view.loc (thr d i) ↦{fullShare} f) ∗ (∃ r, rv.view.loc (thr d i) ↦{fullShare} r))
            -∗ wp frame (wpE (defs₀ (F := F)) 𝒱₀ (thr d i) none) Set.univ (kk (tup (acc fe la ce w (c + 1)))) Q)
          -∗ wp frame (wpE (defs₀ (F := F)) 𝒱₀ (thr d i) none) Set.univ
              (Scf.Loop.for k0_t1_loop k0_t1_ok (tup (acc fe la ce w c)) (trip i rv hr fv hf) >>= kk) Q) := by
  have h := loop_run (F := F) d i rv hr fv hf f r (acc fe la ce w c) (kk := kk) (Q := Q)
  rw [hX, hY, hf.set_eq_univ, hr.set_eq_univ] at h
  iintro H HK
  iapply h $$ H
  iintro ⟨Hf, Hr⟩
  iapply HK
  isplitl [Hf]
  · iexists f; iexact Hf
  · iexists r; iexact Hr

end Reads

end Cert.Proof.Loss

end
-- ==== Proof.Tile.lean ====
/-
  The kernel's body on one tile.
-/
module

public import Idealize.ShloMosaic.Lib.VecWindow
public import proofs.«01_k».proof.Proof.Chunk

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
local notation "𝕄" => MT nD τ sig (HIx 1) (Elt F) ℕ UU ℕ

local notation "fW" => (Memref.whole Cert.KernelIdeal.main_arg0_scv : Memref Cert.KernelIdeal.sig Kind.scVector Space.hbm Cert.KernelIdeal.S16384x128 EltTy.f32)
local notation "lW" => (Memref.whole Cert.KernelIdeal.main_v0_scv : Memref Cert.KernelIdeal.sig Kind.scVector Space.hbm Cert.KernelIdeal.S128x128 EltTy.i32)
local notation "cW" => (Memref.whole Cert.KernelIdeal.main_arg2_scv : Memref Cert.KernelIdeal.sig Kind.scVector Space.hbm Cert.KernelIdeal.S1000x128 EltTy.f32)
local notation "oW" => (Memref.whole Cert.KernelIdeal.main_v1_scv : Memref Cert.KernelIdeal.sig Kind.scVector Space.hbm Cert.KernelIdeal.S16x16 EltTy.f32)
local notation "iW" => (Memref.whole Cert.KernelIdeal.cc0_scratch0 : Memref Cert.KernelIdeal.sig Kind.scVector Space.vmem Cert.KernelIdeal.S8x128 EltTy.i32)
local notation "rW0" => (Memref.whole Cert.KernelIdeal.cc0_scratch1 : Memref Cert.KernelIdeal.sig Kind.scVector Space.vmem Cert.KernelIdeal.S128x128 EltTy.f32)
local notation "rW1" => (Memref.whole Cert.KernelIdeal.cc0_scratch2 : Memref Cert.KernelIdeal.sig Kind.scVector Space.vmem Cert.KernelIdeal.S128x128 EltTy.f32)
local notation "xW0" => (Memref.whole Cert.KernelIdeal.cc0_scratch3 : Memref Cert.KernelIdeal.sig Kind.scVector Space.vmem Cert.KernelIdeal.S128x128 EltTy.f32)
local notation "xW1" => (Memref.whole Cert.KernelIdeal.cc0_scratch4 : Memref Cert.KernelIdeal.sig Kind.scVector Space.vmem Cert.KernelIdeal.S128x128 EltTy.f32)
local notation "aW" => (Memref.whole Cert.KernelIdeal.cc0_scratch5 : Memref Cert.KernelIdeal.sig Kind.scVector Space.vmem Cert.KernelIdeal.S16 EltTy.f32)

/-! ## The tile's own cells -/

section Tile

variable (d : Dev nD) (L : grid0.Coords)

abbrev cell (s : DmaSem sig) : GSem nD τ sig := (thr d L, .dma s)

omit [FloatOps F] in
theorem cell_mem (s : DmaSem sig) (h : (SemLoc.dma s : SemLoc sig).isScoped .scVector = true) : cell d L s ∈ ownCells (thr d L) :=
  mem_ownCells.mpr ⟨rfl, h⟩

omit [FloatOps F] in
theorem cell_ne {s t : DmaSem sig} (h : s ≠ t) : cell d L s ≠ cell d L t :=
  fun e => h (SemLoc.dma.inj (Prod.mk.inj e).2)

omit [FloatOps F] in
/-- The six copy semaphores are among the tile's own: they are them at zero, and the rest. -/
theorem ownSems0_V : ∃ R : sProp 𝕄, (ownSems0 (thr d L) : sProp 𝕄)
    = iprop(semVal (cell d L cc0_scratch6.sem) 0 ∗ semVal (cell d L cc0_scratch7.sem) 0 ∗ semVal (cell d L cc0_scratch8.sem) 0
        ∗ semVal (cell d L cc0_scratch9.sem) 0 ∗ semVal (cell d L cc0_scoped0.sem) 0 ∗ semVal (cell d L cc0_scoped1.sem) 0 ∗ R) := by
  have m (s : DmaSem sig) h := cell_mem d L s h
  have ne {s t : DmaSem sig} (h : s ≠ t) := cell_ne d L h
  refine ⟨bigSep (((((((ownCells (thr d L)).erase (cell d L cc0_scratch6.sem)).erase (cell d L cc0_scratch7.sem)).erase (cell d L cc0_scratch8.sem)).erase
    (cell d L cc0_scratch9.sem)).erase (cell d L cc0_scoped0.sem)).erase (cell d L cc0_scoped1.sem)) fun g => semVal g 0, ?_⟩
  unfold SparseCore.Cfg.ownSems0
  rw [SparseCore.bigSep_erase' (m cc0_scratch6.sem (by decide)),
    SparseCore.bigSep_erase' (Finset.mem_erase.mpr ⟨ne (by decide), m cc0_scratch7.sem (by decide)⟩),
    SparseCore.bigSep_erase' (Finset.mem_erase.mpr ⟨ne (by decide), Finset.mem_erase.mpr ⟨ne (by decide), m cc0_scratch8.sem (by decide)⟩⟩),
    SparseCore.bigSep_erase' (Finset.mem_erase.mpr ⟨ne (by decide), Finset.mem_erase.mpr ⟨ne (by decide), Finset.mem_erase.mpr ⟨ne (by decide),
      m cc0_scratch9.sem (by decide)⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), m cc0_scoped0.sem (by decide)⟩⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), Finset.mem_erase.mpr ⟨ne (by decide), m cc0_scoped1.sem (by decide)⟩⟩⟩⟩⟩)]

abbrev bref (b : Ref sig .scVector) := (Proc.scVector (cV L) (jV L)).devRef b

omit [FloatOps F] in
theorem bref_ne {a b : Ref sig .scVector} (h : a ≠ b) : bref L a ≠ bref L b := fun e => h (Proc.devRef_injective _ e)

omit [FloatOps F] in
/-- The six scratch buffers are among the tile's own: they are them, at some contents, and the rest. -/
theorem ownBufs_V : ∃ R : sProp 𝕄, (ownBufs (thr d L) : sProp 𝕄)
    = iprop((∃ f, (thr d L).loc cc0_scratch0 ↦{fullShare} f) ∗ (∃ f, (thr d L).loc cc0_scratch1 ↦{fullShare} f)
        ∗ (∃ f, (thr d L).loc cc0_scratch2 ↦{fullShare} f) ∗ (∃ f, (thr d L).loc cc0_scratch3 ↦{fullShare} f)
        ∗ (∃ f, (thr d L).loc cc0_scratch4 ↦{fullShare} f) ∗ (∃ f, (thr d L).loc cc0_scratch5 ↦{fullShare} f) ∗ R) := by
  have m (b : Ref sig .scVector) (h : (bref L b).owner = .proc (Proc.scVector (cV L) (jV L))) :=
    mem_ownRefs_of_owner (p := Proc.scVector (cV L) (jV L)) (b := bref L b) h
  have ne {a b : Ref sig .scVector} (h : a ≠ b) := bref_ne L h
  refine ⟨bigSep (((((((ownRefs (τ := τ) (.scVector (cV L) (jV L))).erase (bref L cc0_scratch0)).erase (bref L cc0_scratch1)).erase (bref L cc0_scratch2)).erase
    (bref L cc0_scratch3)).erase (bref L cc0_scratch4)).erase (bref L cc0_scratch5)) fun b => iprop(∃ f, ((d, b) : Loc nD τ sig) ↦{fullShare} f), ?_⟩
  unfold SparseCore.Cfg.ownBufs
  refine (SparseCore.bigSep_erase' (m cc0_scratch0 rfl)).trans ?_
  rw [SparseCore.bigSep_erase' (Finset.mem_erase.mpr ⟨ne (by decide), m cc0_scratch1 rfl⟩),
    SparseCore.bigSep_erase' (Finset.mem_erase.mpr ⟨ne (by decide), Finset.mem_erase.mpr ⟨ne (by decide), m cc0_scratch2 rfl⟩⟩),
    SparseCore.bigSep_erase' (Finset.mem_erase.mpr ⟨ne (by decide), Finset.mem_erase.mpr ⟨ne (by decide), Finset.mem_erase.mpr ⟨ne (by decide), m cc0_scratch3 rfl⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), m cc0_scratch4 rfl⟩⟩⟩⟩),
    SparseCore.bigSep_erase' (Finset.mem_erase.mpr ⟨ne (by decide), Finset.mem_erase.mpr ⟨ne (by decide), Finset.mem_erase.mpr ⟨ne (by decide),
      Finset.mem_erase.mpr ⟨ne (by decide), Finset.mem_erase.mpr ⟨ne (by decide), m cc0_scratch5 rfl⟩⟩⟩⟩⟩)]

/-! ## The run -/

variable (qf ql qc : PosShare TreeShare) (fe : S16384x128.Idx → Elt F .f32) (la : S128x128.Idx → Elt F .i32) (ce : S1000x128.Idx → Elt F .f32)

set_option maxHeartbeats 8000000 in
/-- The kernel's body on one tile, its buffers and semaphores held, from shares of the features, of the labels and of the
    centers (in two halves, for two gathers are under way at once): the label copy, the eight chunks in turn, each chunk's
    copies started two loops ahead, and the copy of the partial sums to the tile's row of the table. -/
theorem tile_run (hla : ∀ x : S128x128.Idx, BitVec.toNat (w := 32) (la x) < 1000) (O : CellTallies nD τ sig (HIx 1)) (W : Waits sig (HIx 1))
    (b0 : Buf (Elt F) ((thr d L).loc cc0_scratch0)) (b1 : Buf (Elt F) ((thr d L).loc cc0_scratch1)) (b2 : Buf (Elt F) ((thr d L).loc cc0_scratch2))
    (b3 : Buf (Elt F) ((thr d L).loc cc0_scratch3)) (b4 : Buf (Elt F) ((thr d L).loc cc0_scratch4)) (b5 : Buf (Elt F) ((thr d L).loc cc0_scratch5))
    (o0 : Buf (Elt F) (oLoc d)) :
    iprop(Transfers.MayWaits (thr d L) (default : HIx 1) O
        ∗ ((fW).view.loc (thr d L) ↦{qf} fe) ∗ ((lW).view.loc (thr d L) ↦{ql} la) ∗ ((cW).view.loc (thr d L) ↦{qc.left} ce) ∗ ((cW).view.loc (thr d L) ↦{qc.right} ce)
        ∗ ((oRowK L).view.loc (thr d L) ↦[(oRowK L).view.set]{fullShare} o0)
        ∗ ((iW).view.loc (thr d L) ↦{fullShare} b0) ∗ ((rW0).view.loc (thr d L) ↦{fullShare} b1) ∗ ((rW1).view.loc (thr d L) ↦{fullShare} b2)
        ∗ ((xW0).view.loc (thr d L) ↦{fullShare} b3) ∗ ((xW1).view.loc (thr d L) ↦{fullShare} b4) ∗ ((aW).view.loc (thr d L) ↦{fullShare} b5)
        ∗ semVal (cell d L cc0_scratch6.sem) 0 ∗ semVal (cell d L cc0_scratch7.sem) 0 ∗ semVal (cell d L cc0_scratch8.sem) 0
        ∗ semVal (cell d L cc0_scratch9.sem) 0 ∗ semVal (cell d L cc0_scoped0.sem) 0 ∗ semVal (cell d L cc0_scoped1.sem) 0
        ∗ owes (thr d L) O W)
      ⊢ wp frame (wpE (defs₀ (F := F)) 𝒱₀ (thr d L) none) Set.univ
          (cc0__sc_body L fW (Memref.isWhole_whole _) lW (Memref.isWhole_whole _) cW (Memref.isWhole_whole _) oW (Memref.isWhole_whole _)
            iW (Memref.isWhole_whole _) rW0 (Memref.isWhole_whole _) rW1 (Memref.isWhole_whole _) xW0 (Memref.isWhole_whole _) xW1 (Memref.isWhole_whole _)
            aW (Memref.isWhole_whole _) cc0_scratch6 cc0_scratch7 cc0_scratch8 cc0_scratch9 cc0_scoped0 cc0_scoped1)
          fun _ => (iprop(((fW).view.loc (thr d L) ↦{qf} fe) ∗ ((lW).view.loc (thr d L) ↦{ql} la) ∗ ((cW).view.loc (thr d L) ↦{qc.left} ce)
            ∗ ((cW).view.loc (thr d L) ↦{qc.right} ce) ∗ ((oRowK L).view.loc (thr d L) ↦[(oRowK L).view.set]{fullShare} partials fe la ce)
            ∗ (∃ f, (iW).view.loc (thr d L) ↦{fullShare} f) ∗ (∃ f, (rW0).view.loc (thr d L) ↦{fullShare} f) ∗ (∃ f, (rW1).view.loc (thr d L) ↦{fullShare} f)
            ∗ (∃ f, (xW0).view.loc (thr d L) ↦{fullShare} f) ∗ (∃ f, (xW1).view.loc (thr d L) ↦{fullShare} f) ∗ (∃ f, (aW).view.loc (thr d L) ↦{fullShare} f)
            ∗ semVal (cell d L cc0_scratch6.sem) 0 ∗ semVal (cell d L cc0_scratch7.sem) 0 ∗ semVal (cell d L cc0_scratch8.sem) 0
            ∗ semVal (cell d L cc0_scratch9.sem) 0 ∗ semVal (cell d L cc0_scoped0.sem) 0 ∗ semVal (cell d L cc0_scoped1.sem) 0
            ∗ ∃ W', ⌜∀ p ∈ W', p ∈ W ∨ p.2 = none⌝ ∗ owes (thr d L) O W') : sProp 𝕄) := by
  iintro ⟨Hmw, Hf, Hl, Hc, Hc', Ho, Hi, Hr0, Hr1, Hx0, Hx1, Ha, Hg0, Hg1, Hs0, Hs1, Hd0, Hd1, HO⟩
  sl_exec
  -- the labels have landed: the list buffer holds the tile's lists, and the gathers over them stay in range
  have hl : View.write (Elt F) (Memref.whole cc0_scratch0).view b0 (tile_run.sl.dma0 L la) Finset.univ = labs la (L 1).val :=
    (View.write_whole_univ _ _ _).trans (lRead L la _)
  ihave Hi := (Entails.of_eq (congrArg (fun g => (((iW).view.loc (thr d L) ↦{fullShare} g : sProp 𝕄))) hl)) $$ Hi
  have h0 := hin la hla (L 1).val 0 inb_S8x128_S1x128_0_0
  have h1 := hin la hla (L 1).val 1 inb_S8x128_S1x128_1_0
  have h2 := hin la hla (L 1).val 2 inb_S8x128_S1x128_2_0
  have h3 := hin la hla (L 1).val 3 inb_S8x128_S1x128_3_0
  have h4 := hin la hla (L 1).val 4 inb_S8x128_S1x128_4_0
  have h5 := hin la hla (L 1).val 5 inb_S8x128_S1x128_5_0
  have h6 := hin la hla (L 1).val 6 inb_S8x128_S1x128_6_0
  have h7 := hin la hla (L 1).val 7 inb_S8x128_S1x128_7_0
  sl_exec
  iapply (loop_chunk d L rW0 (Memref.isWhole_whole _) xW0 (Memref.isWhole_whole _) fe la ce (L 1).val 0 _ _
    ((View.read_write_univ _ _).trans (fRead L fe 0 _)) ((read_last _ _ _ _).trans (gRead la ce (L 1).val 0 _ _ h0))) $$ [Hx0 Hr0]
  · isplitl [Hx0]
    · iexact Hx0
    · iexact Hr0
  iintro ⟨⟨%f0, Hx0⟩, ⟨%r0, Hr0⟩⟩
  sl_exec
  iapply (loop_chunk d L rW1 (Memref.isWhole_whole _) xW1 (Memref.isWhole_whole _) fe la ce (L 1).val 1 _ _
    ((View.read_write_univ _ _).trans (fRead L fe 1 _)) ((read_last _ _ _ _).trans (gRead la ce (L 1).val 1 _ _ h1))) $$ [Hx1 Hr1]
  · isplitl [Hx1]
    · iexact Hx1
    · iexact Hr1
  iintro ⟨⟨%f1, Hx1⟩, ⟨%r1, Hr1⟩⟩
  sl_exec
  iapply (loop_chunk d L rW0 (Memref.isWhole_whole _) xW0 (Memref.isWhole_whole _) fe la ce (L 1).val 2 _ _
    ((View.read_write_univ _ _).trans (fRead L fe 2 _)) ((read_last _ _ _ _).trans (gRead la ce (L 1).val 2 _ _ h2))) $$ [Hx0 Hr0]
  · isplitl [Hx0]
    · iexact Hx0
    · iexact Hr0
  iintro ⟨⟨%f2, Hx0⟩, ⟨%r2, Hr0⟩⟩
  sl_exec
  iapply (loop_chunk d L rW1 (Memref.isWhole_whole _) xW1 (Memref.isWhole_whole _) fe la ce (L 1).val 3 _ _
    ((View.read_write_univ _ _).trans (fRead L fe 3 _)) ((read_last _ _ _ _).trans (gRead la ce (L 1).val 3 _ _ h3))) $$ [Hx1 Hr1]
  · isplitl [Hx1]
    · iexact Hx1
    · iexact Hr1
  iintro ⟨⟨%f3, Hx1⟩, ⟨%r3, Hr1⟩⟩
  sl_exec
  iapply (loop_chunk d L rW0 (Memref.isWhole_whole _) xW0 (Memref.isWhole_whole _) fe la ce (L 1).val 4 _ _
    ((View.read_write_univ _ _).trans (fRead L fe 4 _)) ((read_last _ _ _ _).trans (gRead la ce (L 1).val 4 _ _ h4))) $$ [Hx0 Hr0]
  · isplitl [Hx0]
    · iexact Hx0
    · iexact Hr0
  iintro ⟨⟨%f4, Hx0⟩, ⟨%r4, Hr0⟩⟩
  sl_exec
  iapply (loop_chunk d L rW1 (Memref.isWhole_whole _) xW1 (Memref.isWhole_whole _) fe la ce (L 1).val 5 _ _
    ((View.read_write_univ _ _).trans (fRead L fe 5 _)) ((read_last _ _ _ _).trans (gRead la ce (L 1).val 5 _ _ h5))) $$ [Hx1 Hr1]
  · isplitl [Hx1]
    · iexact Hx1
    · iexact Hr1
  iintro ⟨⟨%f5, Hx1⟩, ⟨%r5, Hr1⟩⟩
  sl_exec
  iapply (loop_chunk d L rW0 (Memref.isWhole_whole _) xW0 (Memref.isWhole_whole _) fe la ce (L 1).val 6 _ _
    ((View.read_write_univ _ _).trans (fRead L fe 6 _)) ((read_last _ _ _ _).trans (gRead la ce (L 1).val 6 _ _ h6))) $$ [Hx0 Hr0]
  · isplitl [Hx0]
    · iexact Hx0
    · iexact Hr0
  iintro ⟨⟨%f6, Hx0⟩, ⟨%r6, Hr0⟩⟩
  sl_exec
  iapply (loop_chunk d L rW1 (Memref.isWhole_whole _) xW1 (Memref.isWhole_whole _) fe la ce (L 1).val 7 _ _
    ((View.read_write_univ _ _).trans (fRead L fe 7 _)) ((read_last _ _ _ _).trans (gRead la ce (L 1).val 7 _ _ h7))) $$ [Hx1 Hr1]
  · isplitl [Hx1]
    · iexact Hx1
    · iexact Hr1
  iintro ⟨⟨%f7, Hx1⟩, ⟨%r7, Hr1⟩⟩
  sl_exec
  have hp : tile_run.sl.dma2 d L fe la ce b5 = partRow fe la ce (L 1).val := by
    unfold tile_run.sl.dma2
    exact View.read_writes_full _ _ _ _ _
  sl_step
  ihave Ho := (Entails.of_eq (pointsTo_congr (row_written L fe la ce o0 _ hp))) $$ Ho
  isplitl [Hf]; · iexact Hf
  isplitl [Hl]; · iexact Hl
  isplitl [Hc]; · iexact Hc
  isplitl [Hc']; · iexact Hc'
  isplitl [Ho]; · iexact Ho
  isplitl [Hi]; · iexists _; iexact Hi
  isplitl [Hr0]; · iexists _; iexact Hr0
  isplitl [Hr1]; · iexists _; iexact Hr1
  isplitl [Hx0]; · iexists _; iexact Hx0
  isplitl [Hx1]; · iexists _; iexact Hx1
  isplitl [Ha]; · iexists _; iexact Ha
  isplitl [Hg0]; · iexact Hg0
  isplitl [Hg1]; · iexact Hg1
  isplitl [Hs0]; · iexact Hs0
  isplitl [Hs1]; · iexact Hs1
  isplitl [Hd0]; · iexact Hd0
  isplitl [Hd1]; · iexact Hd1
  iexists _; isplitr
  swap; · iexact HO
  ipureintro; intro p hp
  simp only [Finset.mem_insert] at hp
  rcases hp with rfl | rfl | rfl | rfl | rfl | rfl | rfl | rfl | rfl | rfl | rfl | rfl | rfl | rfl | rfl | rfl | rfl | rfl | hp
  all_goals first | exact .inl hp | exact .inr rfl

end Tile

end Cert.Proof.Loss

end
-- ==== Proof.Launch.lean ====
/-
  The launch: what the one SparseCore call hands its sixteen tiles and takes back, @main on the TensorCore around it (the
  reshape of the labels before, the sum of the table and the division after), and the whole program's run, for any float
  values: it ends with the result at the table's sum over 2097152 and with its arguments as they were.
-/
module

public import Idealize.ShloMosaic.Lib.ShareLeaves
public import proofs.«01_k».proof.Proof.Tile

@[expose] public section

noncomputable section

namespace Cert.Proof.Loss

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf pointsTo_leaves)
open Idealize.ShloMosaic.StableHlo (held wp_hlo_within)
open Idealize.ShloMosaic.Tactic

variable {F : FTy → Type} [FloatOps F]
local notation "𝕄" => MT nD τ sig (HIx 1) (Elt F) ℕ UU ℕ

local notation "fW" => (Memref.whole Cert.KernelIdeal.main_arg0_scv : Memref Cert.KernelIdeal.sig Kind.scVector Space.hbm Cert.KernelIdeal.S16384x128 EltTy.f32)
local notation "lW" => (Memref.whole Cert.KernelIdeal.main_v0_scv : Memref Cert.KernelIdeal.sig Kind.scVector Space.hbm Cert.KernelIdeal.S128x128 EltTy.i32)
local notation "cW" => (Memref.whole Cert.KernelIdeal.main_arg2_scv : Memref Cert.KernelIdeal.sig Kind.scVector Space.hbm Cert.KernelIdeal.S1000x128 EltTy.f32)
local notation "oW" => (Memref.whole Cert.KernelIdeal.main_v1_scv : Memref Cert.KernelIdeal.sig Kind.scVector Space.hbm Cert.KernelIdeal.S16x16 EltTy.f32)
local notation "iW" => (Memref.whole Cert.KernelIdeal.cc0_scratch0 : Memref Cert.KernelIdeal.sig Kind.scVector Space.vmem Cert.KernelIdeal.S8x128 EltTy.i32)
local notation "rW0" => (Memref.whole Cert.KernelIdeal.cc0_scratch1 : Memref Cert.KernelIdeal.sig Kind.scVector Space.vmem Cert.KernelIdeal.S128x128 EltTy.f32)
local notation "rW1" => (Memref.whole Cert.KernelIdeal.cc0_scratch2 : Memref Cert.KernelIdeal.sig Kind.scVector Space.vmem Cert.KernelIdeal.S128x128 EltTy.f32)
local notation "xW0" => (Memref.whole Cert.KernelIdeal.cc0_scratch3 : Memref Cert.KernelIdeal.sig Kind.scVector Space.vmem Cert.KernelIdeal.S128x128 EltTy.f32)
local notation "xW1" => (Memref.whole Cert.KernelIdeal.cc0_scratch4 : Memref Cert.KernelIdeal.sig Kind.scVector Space.vmem Cert.KernelIdeal.S128x128 EltTy.f32)
local notation "aW" => (Memref.whole Cert.KernelIdeal.cc0_scratch5 : Memref Cert.KernelIdeal.sig Kind.scVector Space.vmem Cert.KernelIdeal.S16 EltTy.f32)

variable (m : (ℓ : Loc nD τ sig) → Buf (Elt F) ℓ) (ρ : Dev nD → PrngReg)

/-! ## Arrays and values -/

/-- The labels as given, and the result. -/
abbrev aLoc (d : Dev nD) : Loc nD τ sig := (SparseCore.T d).loc main_arg1
abbrev rLoc (d : Dev nD) : Loc nD τ sig := (SparseCore.T d).loc main_v3

/-- The labels in rows of 128. -/
def lab2 (a : S16384.Idx → Elt F .i32) : S128x128.Idx → Elt F .i32 := fun x => shapeCast S128x128 a shapeCasts_S16384_S128x128 x

/-- The table of partial sums at the launch memory. -/
def table (d : Dev nD) : S16x16.Idx → Elt F .f32 := partials (m (fLoc d)) (lab2 (m (aLoc d))) (m (cLoc d))

/-- The result: the table's sum, from zero, over 2097152. -/
def resultOf (t : S16x16.Idx → Elt F .f32) : S_.Idx → Elt F .f32 :=
  Host.divf (Host.reduceAdd t (constant S_ .f32 0x00000000#32) reducesTo_S16x16_S_d0_1 h_S_) (constant S_ .f32 0x4A000000#32)

/-- What the proof asks of the launch memory: every label is below the number of centers. -/
def PreOK : Prop := ∀ (d : Dev nD) (j : S16384.Idx), BitVec.toNat (w := 32) (m (aLoc d) j) < 1000

theorem lab2_small (h : PreOK m) (d : Dev nD) (x : S128x128.Idx) : BitVec.toNat (w := 32) (lab2 (F := F) (m (aLoc d)) x) < 1000 := h d _

/-! ## What the handshakes carry -/

theorem nSub_zero : (K (F := F)).nSub 0 = 16 := rfl
theorem odiv : 16 ∣ S16x16.size 0 := ⟨1, rfl⟩
abbrev orow (i : Fin 16) : Rect S16x16 := Rect.part (s := S16x16) (a₀ := 0) odiv i
abbrev oRowSet (i : Fin 16) : Finset S16x16.Idx := ((oW).view.slice (orow i)).set

/-- Tile `i`'s share of what every tile reads. -/
abbrev shq (i : Fin 16) : PosShare TreeShare := leaf 4 fullShare i

abbrev fPts (q : PosShare TreeShare) (d : Dev nD) : sProp 𝕄 := fLoc d ↦{q} m (fLoc d)
abbrev lPts (q : PosShare TreeShare) (d : Dev nD) : sProp 𝕄 := lLoc d ↦{q} lab2 (m (aLoc d))
abbrev cPts (q : PosShare TreeShare) (d : Dev nD) : sProp 𝕄 := cLoc d ↦{q} m (cLoc d)
abbrev oPts (d : Dev nD) (f : Buf (Elt F) (oLoc d)) : sProp 𝕄 := oLoc d ↦{fullShare} f
abbrev oRowPts (d : Dev nD) (i : Fin 16) (f : Buf (Elt F) (oLoc d)) : sProp 𝕄 := oLoc d ↦[oRowSet i]{fullShare} f

/-- What the call takes from the TensorCore and gives back, the table of partial sums at `o`. -/
abbrev callPts (d : Dev nD) (o : Buf (Elt F) (oLoc d)) : sProp 𝕄 := iprop(fPts m fullShare d ∗ lPts m fullShare d ∗ cPts m fullShare d ∗ oPts d o)
/-- What tile `i` takes and gives back: its shares of the three arrays, and its row of the table at `o`. -/
abbrev tilePts (d : Dev nD) (i : Fin 16) (o : Buf (Elt F) (oLoc d)) : sProp 𝕄 := iprop(fPts m (shq i) d ∗ lPts m (shq i) d ∗ cPts m (shq i) d ∗ oRowPts d i o)

/-- The one call: the arrays whole to the SparseCore, a share of each and a row of the table to a tile, and back with the
    table filled. -/
def P : (K (F := F)).Pay (nD := nD) (Val := Elt F) (Name := ℕ) (U := UU) where
  st := fun q d _ => match q with | 0 => callPts m d (m (oLoc d))
  dn := fun q d _ => match q with | 0 => callPts m d (table m d)
  go := fun q d _ i => match q with | 0 => tilePts m d (Fin.cast nSub_zero i) (m (oLoc d))
  td := fun q d _ i => match q with | 0 => tilePts m d (Fin.cast nSub_zero i) (table m d)
  x := fun _ _ => iprop(emp)

instance P_storable : (P (F := F) m).IsStorable where
  st q d _ := match q with | 0 => (inferInstance : BI.Storable (upEmb : UEmb _ 𝕄) (callPts m d (m (oLoc d))))
  dn q d _ := match q with | 0 => (inferInstance : BI.Storable (upEmb : UEmb _ 𝕄) (callPts m d (table m d)))
  go q d _ i := match q with | 0 => (inferInstance : BI.Storable (upEmb : UEmb _ 𝕄) (tilePts m d (Fin.cast nSub_zero i) (m (oLoc d))))
  td q d _ i := match q with | 0 => (inferInstance : BI.Storable (upEmb : UEmb _ 𝕄) (tilePts m d (Fin.cast nSub_zero i) (table m d)))

/-! ## The task -/

section Task

variable (d : Dev nD) (L : grid0.Coords)

omit [FloatOps F] in
theorem bound_one : grid0.bound 1 = 16 := rfl
abbrev jL : Fin 16 := Fin.cast bound_one (L 1)

omit [FloatOps F] in
/-- The tile's row of the table is part `L 1` of its sixteen. -/
theorem orowK_eq : (Rect.unit (s := S16x16) (k0_off67 L) S1x16.size (k0_off67_inb L)) = orow (jL L) := by
  have h0 := core_zero L
  unfold orow Rect.part Rect.block
  congr 1 <;> funext a
  · rw [k0_off67_eq]
    match a with
    | 0 => simp [Shape.partIx, Shape.partSize, h0]
    | 1 => simp [Shape.partIx, Shape.partSize]
  · match a with
    | 0 => simp [Shape.partSize]
    | 1 => simp [Shape.partSize]

omit [FloatOps F] in
theorem set_oRowK : (oRowK L).view.set = oRowSet (jL L) := by
  show (((oW).view.slice (Rect.unit (s := S16x16) (k0_off67 L) S1x16.size (k0_off67_inb L))).reshape S16 squeezes_S1x16_S16.numel_eq).set
    = ((oW).view.slice (orow (jL L))).set
  rw [View.set_reshape]
  exact orowK_eq L ▸ rfl

omit [FloatOps F] in
theorem pts_oRowK (f : Buf (Elt F) (oLoc d)) :
    ((oRowK L).view.loc (thr d L) ↦[(oRowK L).view.set]{fullShare} f : sProp 𝕄) = oLoc d ↦[oRowSet (jL L)]{fullShare} f := by
  rw [set_oRowK]

set_option maxHeartbeats 4000000 in
/-- The task on tile `L 1` of device `d`: `tile_run` on its shares and on its own buffers and semaphores. -/
theorem tile_body (hF : (K (F := F)).Facts) (hpre : PreOK m) (O : CellTallies nD τ sig (HIx 1)) (W : Waits sig (HIx 1)) (hO : ∀ g, O g none = 0) :
    iprop(levAts (K (F := F)).L (K (F := F)).lev ∗ emp ∗ tilePts m d (jL L) (m (oLoc d))
        ∗ scopedBufs (thr d L) ∗ scopedSems0 (thr d L) ∗ owes (thr d L) O W)
      ⊢ wp frame (wpE (defs₀ (F := F)) 𝒱₀ (thr d L) none) Set.univ
          (cc0__sc_body L fW (Memref.isWhole_whole _) lW (Memref.isWhole_whole _) cW (Memref.isWhole_whole _) oW (Memref.isWhole_whole _)
            iW (Memref.isWhole_whole _) rW0 (Memref.isWhole_whole _) rW1 (Memref.isWhole_whole _) xW0 (Memref.isWhole_whole _) xW1 (Memref.isWhole_whole _)
            aW (Memref.isWhole_whole _) cc0_scratch6 cc0_scratch7 cc0_scratch8 cc0_scratch9 cc0_scoped0 cc0_scoped1)
          fun _ => iprop(tilePts m d (jL L) (table m d) ∗ scopedBufs (thr d L) ∗ scopedSems0 (thr d L)
            ∗ ∃ W', ⌜∀ p ∈ W', p ∈ W ∨ p.2 = none⌝ ∗ owes (thr d L) O W') := by
  obtain ⟨RS, hRS⟩ := ownSems0_V (F := F) d L
  obtain ⟨RB, hRB⟩ := ownBufs_V (F := F) d L
  rw [(K (F := F)).scopedBufs_V hF d (cV L) (jV L), SparseCore.Cfg.scopedSems0_V (Val := Elt F) d (cV L) (jV L), hRS, hRB]
  iintro ⟨#Hlv, -, ⟨Hf, Hl, Hc, Ho⟩, ⟨⟨%b0, Hi⟩, ⟨%b1, Hr0⟩, ⟨%b2, Hr1⟩, ⟨%b3, Hx0⟩, ⟨%b4, Hx1⟩, ⟨%b5, Ha⟩, HB⟩, ⟨Hg0, Hg1, Hs0, Hs1, Hd0, Hd1, HS⟩, HO⟩
  ihave Hmw := (show levAts (K (F := F)).L (K (F := F)).lev ⊢ Transfers.MayWaits (thr d L) (default : HIx 1) O from
    (K (F := F)).mayWaits_none (thr := thr d L) hO) $$ Hlv
  ihave Ho := (Entails.of_eq (pts_oRowK (F := F) d L _).symm) $$ Ho
  ihave Hc := (pointsTo_share (PosShare.mem_left_op_right (shq (jL L)))).1 $$ Hc
  icases Hc with ⟨Hc, Hc'⟩
  iapply wp_wand_r
  isplitr [HB HS]
  · iapply (tile_run (F := F) d L (shq (jL L)) (shq (jL L)) (shq (jL L)) (m (fLoc d)) (lab2 (m (aLoc d))) (m (cLoc d)) (lab2_small m hpre d) O W
      b0 b1 b2 b3 b4 b5 (m (oLoc d)))
    isplitl [Hmw]; · iexact Hmw
    isplitl [Hf]; · iexact Hf
    isplitl [Hl]; · iexact Hl
    isplitl [Hc]; · iexact Hc
    isplitl [Hc']; · iexact Hc'
    isplitl [Ho]; · iexact Ho
    isplitl [Hi]; · iexact Hi
    isplitl [Hr0]; · iexact Hr0
    isplitl [Hr1]; · iexact Hr1
    isplitl [Hx0]; · iexact Hx0
    isplitl [Hx1]; · iexact Hx1
    isplitl [Ha]; · iexact Ha
    isplitl [Hg0]; · iexact Hg0
    isplitl [Hg1]; · iexact Hg1
    isplitl [Hs0]; · iexact Hs0
    isplitl [Hs1]; · iexact Hs1
    isplitl [Hd0]; · iexact Hd0
    isplitl [Hd1]; · iexact Hd1
    iexact HO
  · iintro %_ ⟨Hf, Hl, Hc, Hc', Ho, Hi, Hr0, Hr1, Hx0, Hx1, Ha, Hg0, Hg1, Hs0, Hs1, Hd0, Hd1, HO⟩
    ihave Hc := (pointsTo_share (PosShare.mem_left_op_right (shq (jL L)))).2 $$ [Hc Hc']
    · isplitl [Hc] <;> iassumption
    ihave Ho := (Entails.of_eq (pts_oRowK (F := F) d L _)) $$ Ho
    isplitl [Hf Hl Hc Ho]
    · isplitl [Hf]; · iexact Hf
      isplitl [Hl]; · iexact Hl
      isplitl [Hc]; · iexact Hc
      iexact Ho
    isplitl [Hi Hr0 Hr1 Hx0 Hx1 Ha HB]
    · isplitl [Hi]; · iexact Hi
      isplitl [Hr0]; · iexact Hr0
      isplitl [Hr1]; · iexact Hr1
      isplitl [Hx0]; · iexact Hx0
      isplitl [Hx1]; · iexact Hx1
      isplitl [Ha]; · iexact Ha
      iexact HB
    isplitl [Hg0 Hg1 Hs0 Hs1 Hd0 Hd1 HS]
    · isplitl [Hg0]; · iexact Hg0
      isplitl [Hg1]; · iexact Hg1
      isplitl [Hs0]; · iexact Hs0
      isplitl [Hs1]; · iexact Hs1
      isplitl [Hd0]; · iexact Hd0
      isplitl [Hd1]; · iexact Hd1
      iexact HS
    iexact HO

/-! ## The obligation -/

end Task

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s) fW (Memref.isWhole_whole _) lW (Memref.isWhole_whole _) cW (Memref.isWhole_whole _) oW (Memref.isWhole_whole _)
            iW (Memref.isWhole_whole _) rW0 (Memref.isWhole_whole _) rW1 (Memref.isWhole_whole _) xW0 (Memref.isWhole_whole _) xW1 (Memref.isWhole_whole _)
            aW (Memref.isWhole_whole _) cc0_scratch6 cc0_scratch7 cc0_scratch8 cc0_scratch9 cc0_scoped0 cc0_scoped1) ⟨⟩ c s := rfl

omit [FloatOps F] in
/-- A tile that waited for nothing but its own transfers waited within what the launch allows. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- What the launch asks of the tiles. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide, fun _ => rfl⟩

/-! ## The arrays split among the tiles and join -/

omit [FloatOps F] in
theorem oRowSet_eq (i : Fin 16) : oRowSet i = (orow i).set := by
  show ((View.whole (main_v1_scv : Ref sig .scVector)).slice (orow i)).set = _
  rw [View.set_slice]; exact Finset.map_refl
omit [FloatOps F] in
theorem orows_disjoint : ∀ i ∈ (Finset.univ : Finset (Fin 16)), ∀ j ∈ (Finset.univ : Finset (Fin 16)), i ≠ j → Disjoint (oRowSet i) (oRowSet j) :=
  fun i _ j _ h => by rw [oRowSet_eq, oRowSet_eq]; exact Rect.part_disjoint odiv h
omit [FloatOps F] in
theorem orows_cover : (Finset.univ : Finset (Fin 16)).biUnion oRowSet = Finset.univ :=
  (Finset.biUnion_congr rfl fun i _ => oRowSet_eq i).trans (Rect.biUnion_part odiv)

omit [FloatOps F] in
theorem oPts_rows (d : Dev nD) (f : Buf (Elt F) (oLoc d)) : (oPts d f : sProp 𝕄) = bigSep Finset.univ fun i : Fin 16 => oRowPts d i f := by
  rw [← pointsTo_biUnion Finset.univ (ℓ := oLoc d) oRowSet orows_disjoint, orows_cover]
theorem fPts_shares (d : Dev nD) : (fPts m fullShare d : sProp 𝕄) = bigSep Finset.univ fun i : Fin 16 => fPts m (shq i) d := pointsTo_leaves Finset.univ _ 4 fullShare
theorem lPts_shares (d : Dev nD) : (lPts m fullShare d : sProp 𝕄) = bigSep Finset.univ fun i : Fin 16 => lPts m (shq i) d := pointsTo_leaves Finset.univ _ 4 fullShare
theorem cPts_shares (d : Dev nD) : (cPts m fullShare d : sProp 𝕄) = bigSep Finset.univ fun i : Fin 16 => cPts m (shq i) d := pointsTo_leaves Finset.univ _ 4 fullShare

/-- The call's arrays are the tiles' shares and rows at once, whatever the table holds. -/
theorem callPts_tiles (d : Dev nD) (o : Buf (Elt F) (oLoc d)) : (callPts m d o : sProp 𝕄) = bigSep Finset.univ fun i : Fin 16 => tilePts m d i o := by
  rw [bigSep_sep', bigSep_sep', bigSep_sep', ← fPts_shares, ← lPts_shares, ← cPts_shares, ← oPts_rows]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show callPts m d (m (oLoc d)) ⊢ |={Set.univ}=> iprop(
      (bigSep Finset.univ fun i : Fin ((K (F := F)).nSub 0) => tilePts m d (Fin.cast nSub_zero i) (m (oLoc d)))
      ∗ ((bigSep Finset.univ fun i : Fin ((K (F := F)).nSub 0) => tilePts m d (Fin.cast nSub_zero i) (table m d)) -∗ callPts m d (table m d)))
  rw [bigSep_tasks (F := F) (fun i => tilePts m d i (m (oLoc d))), bigSep_tasks (F := F) (fun i => tilePts m d i (table m d)), ← callPts_tiles, ← callPts_tiles]
  iintro H; imodintro
  isplitl [H]; · iexact H
  iintro H; iexact H

/-! ## The launch's own resources -/

def u₀ : UU := (initOf (K (F := F)).hsCells (K (F := F)).hsToks, 1)

omit [FloatOps F] in
theorem emps {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [emps]; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), emps]
  iempintro

/-! ## @main on the TensorCore -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev v0' : DevRef τ sig := Proc.devRef .tc (main_v0 : Ref sig .tc)
abbrev v1' : DevRef τ sig := Proc.devRef .tc (main_v1 : Ref sig .tc)
abbrev z' : DevRef τ sig := Proc.devRef .tc (main_cst : Ref sig .tc)
abbrev v2' : DevRef τ sig := Proc.devRef .tc (main_v2 : Ref sig .tc)
abbrev n' : DevRef τ sig := Proc.devRef .tc (main_cst_0 : Ref sig .tc)
abbrev v3' : DevRef τ sig := Proc.devRef .tc (main_v3 : Ref sig .tc)

abbrev opLab : HloOp τ sig (Elt F) := StableHlo.reshape main_arg1 main_v0 (rfl : (.i32 : EltTy) = .i32) shapeCasts_S16384_S128x128
abbrev opZero : HloOp τ sig (Elt F) := StableHlo.nullary main_cst (constant S_ .f32 0x00000000#32)
abbrev opSum : HloOp τ sig (Elt F) := StableHlo.binary main_v1 main_cst main_v2 ((fun x v => Host.reduceAdd x v reducesTo_S16x16_S_d0_1 h_S_) : (⟨S16x16, .f32⟩ : BufTy).Contents (Elt F) → (⟨S_, .f32⟩ : BufTy).Contents (Elt F) → (⟨S_, .f32⟩ : BufTy).Contents (Elt F))
abbrev opCount : HloOp τ sig (Elt F) := StableHlo.nullary main_cst_0 (constant S_ .f32 0x4A000000#32)
abbrev opDiv : HloOp τ sig (Elt F) := StableHlo.binary main_v2 main_cst_0 main_v3 (Host.divf : (⟨S_, .f32⟩ : BufTy).Contents (Elt F) → (⟨S_, .f32⟩ : BufTy).Contents (Elt F) → (⟨S_, .f32⟩ : BufTy).Contents (Elt F))

/-- The TensorCore's arrays. -/
abbrev S9 : Finset (DevRef τ sig) := {a0', a1', a2', v0', v1', z', v2', n', v3'}

omit [FloatOps F] in
theorem held_S9 (d : Dev nD) (W : Valuation τ sig (Elt F)) :
    (held (T d) S9 W : sProp 𝕄)
      = iprop((fLoc d ↦{fullShare} W a0') ∗ (aLoc d ↦{fullShare} W a1') ∗ (cLoc d ↦{fullShare} W a2') ∗ (lLoc d ↦{fullShare} W v0') ∗ (oLoc d ↦{fullShare} W v1')
          ∗ ((SparseCore.T d).loc main_cst ↦{fullShare} W z') ∗ ((SparseCore.T d).loc main_v2 ↦{fullShare} W v2')
          ∗ ((SparseCore.T d).loc main_cst_0 ↦{fullShare} W n') ∗ rLoc d ↦{fullShare} W v3') := by
  unfold held S9
  repeat rw [SparseCore.bigSep_insert' (by decide)]
  rw [bigSep_singleton]

omit [FloatOps F] in
theorem unscopedBufs_eq (d : Dev nD) (W : (b : Ref sig .tc) → Buf (Elt F) ((d.tc : Thread nD τ).loc b)) :
    (unscopedBufs d W : sProp 𝕄)
      = iprop((fLoc d ↦{fullShare} W main_arg0) ∗ (aLoc d ↦{fullShare} W main_arg1) ∗ (cLoc d ↦{fullShare} W main_arg2) ∗ (lLoc d ↦{fullShare} W main_v0) ∗ (oLoc d ↦{fullShare} W main_v1)
          ∗ ((SparseCore.T d).loc main_cst ↦{fullShare} W main_cst) ∗ ((SparseCore.T d).loc main_v2 ↦{fullShare} W main_v2)
          ∗ ((SparseCore.T d).loc main_cst_0 ↦{fullShare} W main_cst_0) ∗ rLoc d ↦{fullShare} W main_v3) := by
  unfold unscopedBufs
  rw [show (Finset.univ.filter fun b : Ref sig .tc => ¬ b.isScoped) = {main_arg0, main_arg1, main_arg2, main_v0, main_v1, main_cst, main_v2, main_cst_0, main_v3} by decide]
  repeat rw [SparseCore.bigSep_insert' (by decide)]
  rw [bigSep_singleton]

/-- The arrays' contents at the launch, before the call, after it, and through the host's last four operations. -/
def V0 (d : Dev nD) : Valuation τ sig (Elt F) := fun b => m (d, b)
def V1 (d : Dev nD) : Valuation τ sig (Elt F) := (opLab (F := F)).result (V0 m d)
def V2 (d : Dev nD) : Valuation τ sig (Elt F) := Function.update (V1 m d) v1' (table m d)
def V3 (d : Dev nD) : Valuation τ sig (Elt F) := (opZero (F := F)).result (V2 m d)
def V4 (d : Dev nD) : Valuation τ sig (Elt F) := (opSum (F := F)).result (V3 m d)
def V5 (d : Dev nD) : Valuation τ sig (Elt F) := (opCount (F := F)).result (V4 m d)
def V6 (d : Dev nD) : Valuation τ sig (Elt F) := (opDiv (F := F)).result (V5 m d)

omit [FloatOps F] in
theorem unscoped_held (d : Dev nD) : (unscopedBufs d (fun b => m ((SparseCore.T d).loc b)) : sProp 𝕄) = held (T d) S9 (V0 m d) := by
  rw [unscopedBufs_eq, held_S9]; rfl

/-- The reshape leaves every array but the labels' rows. -/
theorem V1_ne (d : Dev nD) {b : DevRef τ sig} (h : b ∉ ({v0'} : Finset (DevRef τ sig))) : V1 m d b = m (d, b) := by
  unfold V1; rw [(opLab (F := F)).result_of_not_mem _ h]; rfl
theorem V1_lab (d : Dev nD) : V1 m d v0' = lab2 (m (aLoc d)) := by
  unfold V1; exact StableHlo.reshape_result main_arg1 main_v0 rfl shapeCasts_S16384_S128x128 _ _ _
theorem V2_ne (d : Dev nD) {b : DevRef τ sig} (h : b ≠ v1') : V2 m d b = V1 m d b := Function.update_of_ne h _ _
theorem V2_o (d : Dev nD) : V2 m d v1' = table m d := Function.update_self _ _ _

/-- What the host's operations do not write stays as it was after the call. -/
theorem V6_ne (d : Dev nD) {b : DevRef τ sig} (h : b ∉ ({z', v2', n', v3'} : Finset (DevRef τ sig))) : V6 m d b = V2 m d b := by
  simp only [Finset.mem_insert, Finset.mem_singleton, not_or] at h
  unfold V6 V5 V4 V3
  rw [(opDiv (F := F)).result_of_not_mem _ (show b ∉ ({v3'} : Finset (DevRef τ sig)) by simpa using h.2.2.2),
    (opCount (F := F)).result_of_not_mem _ (show b ∉ ({n'} : Finset (DevRef τ sig)) by simpa using h.2.2.1),
    (opSum (F := F)).result_of_not_mem _ (show b ∉ ({v2'} : Finset (DevRef τ sig)) by simpa using h.2.1),
    (opZero (F := F)).result_of_not_mem _ (show b ∉ ({z'} : Finset (DevRef τ sig)) by simpa using h.1)]

theorem V6_result (d : Dev nD) : V6 m d v3' = resultOf (table m d) := by
  have h4 : V4 m d v2' = Host.reduceAdd (table m d) (constant S_ .f32 0x00000000#32) reducesTo_S16x16_S_d0_1 h_S_ := by
    unfold V4
    refine (StableHlo.binary_result _ _ _ _ _ _ _ _).trans ?_
    have e1 : V3 m d v1' = table m d := by
      unfold V3; rw [(opZero (F := F)).result_of_not_mem _ (show v1' ∉ ({z'} : Finset (DevRef τ sig)) by decide), V2_o]
    have e2 : V3 m d z' = constant S_ .f32 0x00000000#32 := by unfold V3; exact StableHlo.nullary_result _ _ _ _
    rw [e1, e2]
  unfold V6
  refine (StableHlo.binary_result _ _ _ _ _ _ _ _).trans ?_
  have e1 : V5 m d v2' = V4 m d v2' := by
    unfold V5; rw [(opCount (F := F)).result_of_not_mem _ (show v2' ∉ ({n'} : Finset (DevRef τ sig)) by decide)]
  have e2 : V5 m d n' = constant S_ .f32 0x4A000000#32 := by unfold V5; exact StableHlo.nullary_result _ _ _ _
  rw [e1, e2, h4]; rfl

/-- What @main leaves the claims: the arguments at their launch contents, the result. -/
abbrev FIN (d : Dev nD) : sProp 𝕄 :=
  iprop((fLoc d ↦{fullShare} m (fLoc d)) ∗ (aLoc d ↦{fullShare} m (aLoc d)) ∗ (cLoc d ↦{fullShare} m (cLoc d)) ∗ rLoc d ↦{fullShare} resultOf (table m d))

/-- The nine arrays before the call, and at the end. -/
theorem held_V1 (d : Dev nD) :
    (held (T d) S9 ((opLab (F := F)).result (V0 m d)) : sProp 𝕄)
      = iprop(fPts m fullShare d ∗ (aLoc d ↦{fullShare} V1 m d a1') ∗ cPts m fullShare d ∗ lPts m fullShare d ∗ oPts d (m (oLoc d))
          ∗ ((SparseCore.T d).loc main_cst ↦{fullShare} V1 m d z') ∗ ((SparseCore.T d).loc main_v2 ↦{fullShare} V1 m d v2')
          ∗ ((SparseCore.T d).loc main_cst_0 ↦{fullShare} V1 m d n') ∗ rLoc d ↦{fullShare} V1 m d v3') := by
  show held (SparseCore.T d) S9 (V1 m d) = _
  rw [held_S9, V1_ne m d (show a0' ∉ ({v0'} : Finset (DevRef τ sig)) by decide), V1_ne m d (show a2' ∉ ({v0'} : Finset (DevRef τ sig)) by decide),
    V1_ne m d (show v1' ∉ ({v0'} : Finset (DevRef τ sig)) by decide), V1_lab]
theorem held_V6 (d : Dev nD) :
    (held (T d) S9 ((opDiv (F := F)).result (V5 m d)) : sProp 𝕄)
      = iprop((fLoc d ↦{fullShare} m (fLoc d)) ∗ (aLoc d ↦{fullShare} m (aLoc d)) ∗ (cLoc d ↦{fullShare} m (cLoc d)) ∗ (lLoc d ↦{fullShare} V6 m d v0') ∗ (oLoc d ↦{fullShare} V6 m d v1')
          ∗ ((SparseCore.T d).loc main_cst ↦{fullShare} V6 m d z') ∗ ((SparseCore.T d).loc main_v2 ↦{fullShare} V6 m d v2')
          ∗ ((SparseCore.T d).loc main_cst_0 ↦{fullShare} V6 m d n') ∗ rLoc d ↦{fullShare} resultOf (table m d)) := by
  show held (SparseCore.T d) S9 (V6 m d) = _
  rw [held_S9, V6_result]
  have e : ∀ b : DevRef τ sig, b ∉ ({z', v2', n', v3'} : Finset (DevRef τ sig)) → b ≠ v1' → b ∉ ({v0'} : Finset (DevRef τ sig)) → V6 m d b = m (d, b) :=
    fun b h1 h2 h3 => (V6_ne m d h1).trans ((V2_ne m d h2).trans (V1_ne m d h3))
  rw [e a0' (by decide) (by decide) (by decide), e a1' (by decide) (by decide) (by decide), e a2' (by decide) (by decide) (by decide)]

theorem st0_eq (d : Dev nD) : (bigSep Finset.univ fun c : Fin ((K (F := F)).nCore 0) => (P m).st 0 d c) = callPts m d (m (oLoc d)) :=
  bigSep_univ_of_subsingleton (0 : Fin 1)
theorem dn0_eq (d : Dev nD) : (bigSep Finset.univ fun c : Fin ((K (F := F)).nCore 0) => (P m).dn 0 d c) = callPts m d (table m d) :=
  bigSep_univ_of_subsingleton (0 : Fin 1)

theorem hLab : (opLab (F := F)).bufs ⊆ S9 := show ({a1', v0'} : Finset (DevRef τ sig)) ⊆ S9 by decide
theorem hZero : (opZero (F := F)).bufs ⊆ S9 := show ({z'} : Finset (DevRef τ sig)) ⊆ S9 by decide
theorem hSum : (opSum (F := F)).bufs ⊆ S9 := show ({v1', z', v2'} : Finset (DevRef τ sig)) ⊆ S9 by decide
theorem hCount : (opCount (F := F)).bufs ⊆ S9 := show ({n'} : Finset (DevRef τ sig)) ⊆ S9 by decide
theorem hDiv : (opDiv (F := F)).bufs ⊆ S9 := show ({v2', n', v3'} : Finset (DevRef τ sig)) ⊆ S9 by decide

/-- @main on device `d`'s TensorCore: the labels reshaped, the call from the four arrays, then the sum and the division. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opLab) (S := S9) hLab (V := V0 m d)) $$ [Hb Hheld]
  · isplitl [Hb] <;> iassumption
  iintro ⟨Hb, Hheld⟩
  rw [wp_ret]; imodintro
  ihave Hh := (Entails.of_eq (held_V1 (F := F) m d)) $$ Hheld
  icases Hh with ⟨Hf, Ha, Hc, Hl, Ho, Hz, Hs, Hn, Hr⟩
  iapply ((K (F := F)).wp_run (D (F := F)) 𝒱 (EH := EH) (P := P m) κ d 0) $$ [Hst Hf Hc Hl Ho Hb Ha Hz Hs Hn Hr Hts]
  isplitr; · iexact Hctx
  isplitl [Hst]; · iexact Hst
  isplitl [Hf Hc Hl Ho]
  · rw [st0_eq]
    isplitl [Hf]; · iexact Hf
    isplitl [Hl]; · iexact Hl
    isplitl [Hc]; · iexact Hc
    iexact Ho
  iintro ⟨Hst, Hdn⟩
  ihave Hdn' := (Entails.of_eq (dn0_eq m d)) $$ Hdn
  icases Hdn' with ⟨Hf, Hl, Hc, Ho⟩
  iapply (wp_hlo_within 𝒱 (SparseCore.T d) none Set.univ (op := opZero) (S := S9) hZero (V := V2 m d)) $$ [Hb Hf Ha Hc Hl Ho Hz Hs Hn Hr]
  · isplitl [Hb]; · iexact Hb
    rw [held_S9, V2_o, V2_ne m d (show a0' ≠ v1' by decide), V2_ne m d (show a1' ≠ v1' by decide), V2_ne m d (show a2' ≠ v1' by decide),
      V2_ne m d (show v0' ≠ v1' by decide), V2_ne m d (show z' ≠ v1' by decide), V2_ne m d (show v2' ≠ v1' by decide),
      V2_ne m d (show n' ≠ v1' by decide), V2_ne m d (show v3' ≠ v1' by decide),
      V1_ne m d (show a0' ∉ ({v0'} : Finset (DevRef τ sig)) by decide), V1_ne m d (show a2' ∉ ({v0'} : Finset (DevRef τ sig)) by decide), V1_lab]
    isplitl [Hf]; · iexact Hf
    isplitl [Ha]; · iexact Ha
    isplitl [Hc]; · iexact Hc
    isplitl [Hl]; · iexact Hl
    isplitl [Ho]; · iexact Ho
    isplitl [Hz]; · iexact Hz
    isplitl [Hs]; · iexact Hs
    isplitl [Hn]; · iexact Hn
    iexact Hr
  iintro ⟨Hb, Hheld⟩
  rw [wp_ret]; imodintro
  iapply (wp_hlo_within 𝒱 (SparseCore.T d) none Set.univ (op := opSum) (S := S9) hSum (V := V3 m d)) $$ [Hb Hheld]
  · isplitl [Hb]; · iexact Hb
    iexact Hheld
  iintro ⟨Hb, Hheld⟩
  rw [wp_ret]; imodintro
  iapply (wp_hlo_within 𝒱 (SparseCore.T d) none Set.univ (op := opCount) (S := S9) hCount (V := V4 m d)) $$ [Hb Hheld]
  · isplitl [Hb]; · iexact Hb
    iexact Hheld
  iintro ⟨Hb, Hheld⟩
  rw [wp_ret]; imodintro
  iapply (wp_hlo_within 𝒱 (SparseCore.T d) none Set.univ (op := opDiv) (S := S9) hDiv (V := V5 m d)) $$ [Hb Hheld]
  · isplitl [Hb]; · iexact Hb
    iexact Hheld
  iintro ⟨Hb, Hheld⟩
  ihave Hh := (Entails.of_eq (held_V6 (F := F) m d)) $$ Hheld
  icases Hh with ⟨Hf, Ha, Hc, -, -, -, -, -, Hr⟩
  rw [wp_ret]; imodintro; imodintro
  isplitl [Hst]; · iexact Hst
  isplitr [Hb Hts]
  · isplitl [Hf]; · iexact Hf
    isplitl [Ha]; · iexact Ha
    isplitl [Hc]; · iexact Hc
    iexact Hr
  isplitl [Hb] <;> iassumption

/-! ## The program's run -/

/-- What a final state holds on device `d`: the result, and the arguments as they were. -/
def fq (d : Dev nD) (s' : Phys nD τ sig (Elt F)) : Prop :=
  s'.mem.mem (rLoc d) = resultOf (table m d) ∧ s'.mem.mem (fLoc d) = m (fLoc d) ∧ s'.mem.mem (aLoc d) = m (aLoc d) ∧ s'.mem.mem (cLoc d) = m (cLoc d)

omit [FloatOps F] in
/-- An array held whole at `f` beside the state is at `f` in the state. -/
theorem agree (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  · iexact HSI

set_option maxRecDepth 16384 in
theorem hfin (d : Dev nD) (s' : Phys nD τ sig (Elt F)) : iprop(FIN m d ∗ SI s') ⊢ (⌜fq m d s'⌝ : sProp 𝕄) := by
  iintro ⟨⟨Hf, Ha, Hc, Hr⟩, HSI⟩
  ihave H := (agree s' (fLoc d) (m (fLoc d))) $$ [HSI Hf]
  · isplitl [HSI] <;> iassumption
  icases H with ⟨%h1, HSI⟩
  ihave H := (agree s' (aLoc d) (m (aLoc d))) $$ [HSI Ha]
  · isplitl [HSI] <;> iassumption
  icases H with ⟨%h2, HSI⟩
  ihave H := (agree s' (cLoc d) (m (cLoc d))) $$ [HSI Hc]
  · isplitl [HSI] <;> iassumption
  icases H with ⟨%h3, HSI⟩
  ihave H := (agree s' (rLoc d) (resultOf (table m d))) $$ [HSI Hr]
  · isplitl [HSI] <;> iassumption
  icases H with ⟨%h4, -⟩
  ipureintro; exact ⟨h4, h1, h2, h3⟩

def QC : PUnit × MemSt nD τ sig (Elt F) → Prop := fun r =>
  (∀ c : Dev nD, r.2.mem (rLoc c) = resultOf (table m c) ∧ r.2.mem (fLoc c) = m (fLoc c) ∧ r.2.mem (aLoc c) = m (aLoc c) ∧ r.2.mem (cLoc c) = m (cLoc c))
    ∧ r.2.sem = fun _ => 0

/-- The whole program, its labels in range: it ends, the result at the table's sum over 2097152, the arguments unchanged. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Loss

end
-- ==== Proof.Frames.lean ====
/-
  The frames: the labels' range as the precondition states it, and the claims that a program ends with its arguments and
  its semaphores as they were.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_labels_in_range
public import proofs.«01_k».proof.Proof.Launch
public import Idealize.ShloMosaic.Lib.ReduceAll
public import Idealize.ShloMosaic.Lib.Quiescent

@[expose] public section

noncomputable section

namespace Cert.Proof.Loss

open Idealize.ShloMosaic Idealize.SL.Sem

/-- A word that is at least 0 and below 1000, read with a sign, is below 1000 as a number. -/
theorem small_of_range (v : BitVec 32) (h0 : IntOp.cmpi .sge v 0#32 = 1#1) (h1 : IntOp.cmpi .slt v 1000#32 = 1#1) : v.toNat < 1000 := by
  have one (p : Bool) : (BitVec.ofBool p = 1#1) ↔ p = true := by cases p <;> decide
  simp only [IntOp.cmpi, one, BitVec.sle_eq_decide, BitVec.slt_eq_decide, decide_eq_true_eq, BitVec.toInt_eq_toNat_cond, BitVec.toNat_ofNat,
    Nat.reducePow, Nat.reduceMod] at h0 h1
  omega

/-- The precondition gives every label's range. -/
theorem small_of_pre {F : FTy → Type} [FloatOps F] (f : FVec F Cert.Pre_labels_in_range.S16384x128 .f32) (a : IVec Cert.Pre_labels_in_range.S16384 32)
    (c : FVec F Cert.Pre_labels_in_range.S1000x128 .f32) (h : Cert.Pre_labels_in_range.fn f a c = fun _ => 1#1) (j : Cert.Pre_labels_in_range.S16384.Idx) :
    BitVec.toNat (w := 32) (a j) < 1000 := by
  have : Subsingleton Cert.Pre_labels_in_range.S_.Idx := ⟨fun x y => funext fun b => b.elim0⟩
  have e := congrFun h (fun b => b.elim0)
  simp only [Cert.Pre_labels_in_range.fn, andi] at e
  obtain ⟨e0, e1⟩ := IntOp.andi_eq_one.1 e
  exact small_of_range _ (Host.reduce_andi_all _ _ _ _ _ e0 j) (Host.reduce_andi_all _ _ _ _ _ e1 j)

/-- `Cert.quiescent_Kernel` (Defs.lean): the idealized program's run, its text being the kernel's, at words. -/
theorem frame_kernel : Cert.quiescent_Kernel := fun m ρ hpre =>
  (θ_run Cert.KernelIdeal.defs _ _).mono (fun _ h => ⟨fun c => (h.1 c).2, h.2⟩)
    (run_main (F := Bits) m ρ fun d j => small_of_pre _ _ _ (hpre d) j)

/-- `Cert.quiescent_KernelIdeal` (Defs.lean): the same run at extended reals. -/
theorem frame_ideal : Cert.quiescent_KernelIdeal := fun m ρ hpre =>
  (θ_run Cert.KernelIdeal.defs _ _).mono (fun _ h => ⟨fun c => (h.1 c).2, h.2⟩)
    (run_main (F := Ideal) m ρ fun d j => small_of_pre _ _ _ (hpre d) j)

/-- `Cert.quiescent_ReferenceIdeal` (Defs.lean): the reference declares no semaphore. -/
theorem frame_reference : Cert.quiescent_ReferenceIdeal := fun m ρ _ =>
  (θ_run Cert.ReferenceIdeal.defs _ _).mono (fun _ h => ⟨fun c => (h c).2, sem_eq_zero_of_no_sems rfl _⟩) (Cert.ReferenceIdeal.Value.run (F := Ideal) m ρ)

/-- The same under the labels' range. -/
theorem frame_reference_pre : Cert.quiescent_ReferenceIdeal_pre_labels_in_range := fun m ρ _ => frame_reference m ρ trivial

end Cert.Proof.Loss

end
-- ==== Proof.Value.lean ====
/-
  The kernel's value over the extended reals: the table of partial sums adds up to the sum, over every feature row and
  column, of the square of the feature's distance from the center that the row's label names.
-/
module

public import proofs.«01_k».proof.Proof.Launch
public import Idealize.ShloMosaic.PureOps.Ideal.Laws
public import Idealize.ShloMosaic.Lib.Pipeline.ValueKit.Acc

@[expose] public section

noncomputable section

namespace Cert.Proof.Loss

open Cert.KernelIdeal Cert.KernelIdeal.Gen

open Idealize.ShloMosaic
open Finset (range)

/-! ## Sums over blocks -/

/-- A sum in `a` blocks of `b` is the sum over all `a * b`. -/
theorem sum_blocks (a b : ℕ) (f : ℕ → EReal) : ∑ p ∈ range a, ∑ q ∈ range b, f (b * p + q) = ∑ n ∈ range (b * a), f n := by
  induction a with
  | zero => simp
  | succ a ih => rw [Finset.sum_range_succ, ih, Nat.mul_succ, Finset.sum_range_add]

/-- A sum over a rank-2 shape's indices of a function of their coordinates. -/
theorem sum_rank2 (a b : ℕ) (g : ℕ → ℕ → EReal) :
    ∑ x : (⟨2, ![a, b]⟩ : Shape).Idx, g (x 0).val (x 1).val = ∑ p ∈ range a, ∑ q ∈ range b, g p q :=
  Fin.sum_idx2_range ![a, b] g

/-! ## The terms -/

section Terms
variable (fe : S16384x128.Idx → EReal) (la : S128x128.Idx → BitVec 32) (ce : S1000x128.Idx → EReal)

/-- The squared difference at a row and a column. -/
def term (r col : ℕ) : EReal :=
  (fe (fAt r col) - ce (cAt (la (at2 (r / 128) (r % 128))).toNat col)) * (fe (fAt r col) - ce (cAt (la (at2 (r / 128) (r % 128))).toNat col))

/-- An accumulator after `n` rows of a chunk: its start and the rows' squared differences. -/
theorem accum_apply (X Y : S128x128.Idx → EReal) (j : Fin 8) (a : S16.Idx → EReal) (x : S16.Idx) (n : ℕ) :
    accum (F := Ideal) X Y j a n x = a x + ∑ i ∈ range n, (X (at2 i (16 * j.val + (x 0).val)) - Y (at2 i (16 * j.val + (x 0).val)))
      * (X (at2 i (16 * j.val + (x 0).val)) - Y (at2 i (16 * j.val + (x 0).val))) := by
  induction n with
  | zero => simp [accum]
  | succ n ih => rw [Finset.sum_range_succ, ← add_assoc, ← ih]; rfl

/-- Row `i`, column `col` of tile `w`'s chunk `c`: the difference is that of the array's row. -/
theorem chunk_term (w c i col : ℕ) (hi : i < 128) (hcol : col < 128) :
    (fChunk (F := Ideal) fe w c (at2 i col) - cChunk (F := Ideal) la ce w c (at2 i col)) * (fChunk (F := Ideal) fe w c (at2 i col) - cChunk (F := Ideal) la ce w c (at2 i col))
      = term fe la ce (1024 * w + (128 * c + i)) col := by
  have e1 : (1024 * w + (128 * c + i)) / 128 = 8 * w + c := by omega
  have e2 : (1024 * w + (128 * c + i)) % 128 = i := by omega
  have hf : fChunk (F := Ideal) fe w c (at2 i col) = fe (fAt (1024 * w + (128 * c + i)) col) := by
    show fe (fAt (1024 * w + 128 * c + i % 128) (col % 128)) = _
    rw [Nat.mod_eq_of_lt hi, Nat.mod_eq_of_lt hcol, Nat.add_assoc]
  have hc : cChunk (F := Ideal) la ce w c (at2 i col) = ce (cAt (la (at2 (8 * w + c) i)).toNat col) := by
    show ce (cAt (la (at2 (8 * w + c) (i % 128))).toNat (col % 128)) = _
    rw [Nat.mod_eq_of_lt hi, Nat.mod_eq_of_lt hcol]
  unfold term
  rw [hf, hc, e1, e2]

/-- Tile `w`'s accumulator of block `j` after `c` chunks, lane `x`: the terms of its first `128 c` rows at that column. -/
theorem acc_apply (w : ℕ) (j : Fin 8) (x : S16.Idx) (c : ℕ) :
    acc (F := Ideal) fe la ce w c j x = ∑ r ∈ range (128 * c), term fe la ce (1024 * w + r) (16 * j.val + (x 0).val) := by
  have hx : (x 0).val < 16 := (x 0).isLt
  have hj := j.isLt
  rw [← sum_blocks c 128 fun r => term fe la ce (1024 * w + r) (16 * j.val + (x 0).val)]
  induction c with
  | zero => exact Ideal.ofBits_zero_f32
  | succ c ih =>
    rw [Finset.sum_range_succ, ← ih]
    refine (accum_apply _ _ j _ x 128).trans (congrArg (acc (F := Ideal) fe la ce w c j x + ·) ?_)
    exact Finset.sum_congr rfl fun i hi => chunk_term fe la ce w c i _ (Finset.mem_range.1 hi) (by omega)

/-- Lane `x` of tile `w`'s row of partial sums: the terms of its 1024 rows at the lane of every block. -/
theorem partRow_apply (w : ℕ) (x : S16.Idx) :
    partRow (F := Ideal) fe la ce w x = ∑ j ∈ range 8, ∑ r ∈ range 1024, term fe la ce (1024 * w + r) (16 * j + (x 0).val) := by
  have e : ∀ j : Fin 8, acc (F := Ideal) fe la ce w 8 j x = ∑ r ∈ range 1024, term fe la ce (1024 * w + r) (16 * j.val + (x 0).val) :=
    fun j => acc_apply fe la ce w j x 8
  have h : partRow (F := Ideal) fe la ce w x = ∑ j : Fin 8, acc (F := Ideal) fe la ce w 8 j x := by
    rw [Fin.sum_univ_eight]
    unfold partRow k0_pay2
    rw [shapeCast_apply (t := S16) _ shapeCasts_S16_S16 x x rfl]
    rfl
  rw [h, ← Fin.sum_univ_eq_sum_range fun j => ∑ r ∈ range 1024, term fe la ce (1024 * w + r) (16 * j + (x 0).val)]
  exact Finset.sum_congr rfl fun j _ => e j

/-- The table of partial sums adds up to every row's and column's term. -/
theorem partials_sum : ∑ y : S16x16.Idx, partials (F := Ideal) fe la ce y = ∑ x : S16384x128.Idx, term fe la ce (x 0).val (x 1).val := by
  have h : ∀ y : S16x16.Idx, partials (F := Ideal) fe la ce y
      = (fun w l => ∑ j ∈ range 8, ∑ r ∈ range 1024, term fe la ce (1024 * w + r) (16 * j + l)) (y 0).val (y 1).val :=
    fun y => partRow_apply fe la ce _ _
  rw [Finset.sum_congr rfl fun y _ => h y, sum_rank2 16 16 fun w l => ∑ j ∈ range 8, ∑ r ∈ range 1024, term fe la ce (1024 * w + r) (16 * j + l),
    sum_rank2 16384 128 (term fe la ce), ← sum_blocks 16 1024 fun n => ∑ q ∈ range 128, term fe la ce n q]
  refine Finset.sum_congr rfl fun w _ => ?_
  have hq : ∀ r, ∑ q ∈ range 128, term fe la ce (1024 * w + r) q = ∑ j ∈ range 8, ∑ l ∈ range 16, term fe la ce (1024 * w + r) (16 * j + l) :=
    fun r => (sum_blocks 8 16 fun q => term fe la ce (1024 * w + r) q).symm
  rw [Finset.sum_congr rfl fun r _ => hq r, Finset.sum_comm]
  conv_rhs => rw [Finset.sum_comm]
  refine Finset.sum_congr rfl fun j _ => ?_
  rw [Finset.sum_comm]

end Terms

end Cert.Proof.Loss

end
-- ==== Proof.Reference.lean ====
/-
  The reference's value over the extended reals, the labels in range: the sum, over every feature row and column, of the
  square of the feature's distance from the center that the row's label names, over 2097152.
-/
module

public import proofs.«01_k».proof.Proof.Gen.ReferenceIdeal
public import proofs.«01_k».proof.Proof.Gen.ReferenceIdeal.Run
public import Idealize.ShloMosaic.PureOps.Ideal.Laws
public import Idealize.ShloMosaic.Lib.ReduceAll
public import Idealize.ShloMosaic.Lib.Routing.Ops

@[expose] public section

noncomputable section

namespace Cert.Proof.LossRef

open Cert.ReferenceIdeal Cert.ReferenceIdeal.Gen

open Idealize.ShloMosaic Idealize.ShloMosaic.ValueIdx Idealize.SL.Sem

/-- The reference's take counts a negative label from the centers' end. -/
def wrapped (a : IVec S16384 32) : IVec S16384 32 :=
  select (cmpi .slt a (broadcastInDim S16384 ![] bcast_S_S16384 (constantI S_ 32 0#32)))
    (addi a (broadcastInDim S16384 ![] bcast_S_S16384 (constantI S_ 32 1000#32))) a

/-- The labels as a column. -/
def column (a : IVec S16384 32) : IVec S16384x1 32 := broadcastInDim S16384x1 ![0] bcast_S16384_S16384x1_0 (wrapped a)

/-- Whether a label names a center. -/
def named (a : IVec S16384 32) : IVec S16384 1 :=
  Host.reduce IntOp.andi (andi (cmpi .sge (column a) (broadcastInDim S16384x1 ![] bcast_S_S16384x1 (constantI S_ 32 0#32)))
    (cmpi .sle (column a) (broadcastInDim S16384x1 ![0, 1] bcast_S1x1_S16384x1_0_1 (broadcastInDim S1x1 ![1] bcast_S1_S1x1_1 (constantI S1 32 999#32)))))
    (constantI S_ 1 1#1) reducesTo_S16384x1_S16384_d1 h_S_

/-- The centers that the labels name, a row for each, and a fill where a label names none. -/
def taken (a : IVec S16384 32) (c : FVec Ideal S1000x128 .f32) : FVec Ideal S16384x128 .f32 :=
  select (broadcastInDim S16384x128 ![0] bcast_S16384_S16384x128_0 (named a))
    (Host.gather gather_S1000x128_S16384x1_S16384x128_1_0_n_n_0_1_1128 c (column a))
    (broadcastInDim S16384x128 ![] bcast_S_S16384x128 (constant S_ .f32 0x7FC00000#32))

/-- The reference's result. -/
def mean (f : FVec Ideal S16384x128 .f32) (a : IVec S16384 32) (c : FVec Ideal S1000x128 .f32) : FVec Ideal S_ .f32 :=
  Host.divf (Host.reduceAdd (mulf (subf f (taken a c)) (subf f (taken a c))) (constant S_ .f32 0x00000000#32) reducesTo_S16384x128_S_d0_1 h_S_)
    (constant S_ .f32 0x4A000000#32)

/-- The reference's run, its result named. -/
theorem run_mean (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4)
          = mean (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ReferenceIdeal.Value.run (F := Ideal) m ρ

section InRange
variable (a : IVec S16384 32) (ha : ∀ j, (a j).toNat < 1000)

/-- The index of a label. -/
abbrev at1 (r : Fin 16384) : S16384.Idx := ix1 r

include ha in
/-- A label in range is not negative, so it stays as it is. -/
theorem wrapped_eq : wrapped a = a := by
  funext j
  have h := ha j
  have e : IntOp.cmpi .slt (a j) 0#32 = 0#1 := by
    simp only [IntOp.cmpi, BitVec.slt_eq_decide, BitVec.toInt_eq_toNat_cond, BitVec.toNat_ofNat]
    rw [decide_eq_false (by simp; omega)]; rfl
  show (if IntOp.cmpi .slt (a j) 0#32 = 1#1 then _ else a j) = a j
  rw [e]; rfl

include ha in
theorem column_apply (r : Fin 16384) (z : Fin 1) : column a (ix2 r z) = a (at1 r) := by
  unfold column
  rw [wrapped_eq a ha]
  refine congrArg a (funext fun b => ?_)
  match b with
  | 0 => exact Fin.ext rfl

include ha in
/-- Every label in range names a center. -/
theorem named_eq (j : S16384.Idx) : named a j = 1#1 := by
  refine Host.reduce_andi_one _ _ _ _ _ rfl fun x => ?_
  obtain ⟨r, z, rfl⟩ : ∃ r z, x = ix2 r z := ⟨_, _, eq_ix2 x⟩
  have h := ha (at1 r)
  show IntOp.andi (IntOp.cmpi .sge (column a (ix2 r z)) 0#32) (IntOp.cmpi .sle (column a (ix2 r z)) 999#32) = 1#1
  rw [column_apply a ha]
  have one (p : Bool) : (BitVec.ofBool p = 1#1) ↔ p = true := by cases p <;> decide
  rw [IntOp.andi_eq_one]
  simp only [IntOp.cmpi, one, BitVec.sle_eq_decide, decide_eq_true_eq, BitVec.toInt_eq_toNat_cond, BitVec.toNat_ofNat, Nat.reducePow, Nat.reduceMod]
  omega

include ha in
/-- The row taken for a label is the center that it names. -/
theorem taken_apply (c : FVec Ideal S1000x128 .f32) (r : Fin 16384) (col : Fin 128) :
    taken a c (ix2 r col) = c (ix2 ⟨(a (at1 r)).toNat, ha _⟩ col) := by
  have hs : taken a c (ix2 r col) = Host.gather gather_S1000x128_S16384x1_S16384x128_1_0_n_n_0_1_1128 c (column a) (ix2 r col) := by
    unfold taken select
    exact if_pos (named_eq a ha _)
  rw [hs]
  exact Routing.gather_row (nb := 1000) (B := 128) (n := 16384) gather_S1000x128_S16384x1_S16384x128_1_0_n_n_0_1_1128 rfl rfl rfl rfl rfl c (column a) r col
    ⟨(a (at1 r)).toNat, ha _⟩ ((column_apply a ha r 0).trans (by simp)) (by decide)

include ha in
/-- The reference's result, the labels in range: the sum of the squared differences over 2097152. -/
theorem mean_apply (f : FVec Ideal S16384x128 .f32) (c : FVec Ideal S1000x128 .f32) :
    mean f a c = fun _ => Ideal.div (∑ x : S16384x128.Idx, (f x - c (ix2 ⟨(a (at1 (x 0))).toNat, ha _⟩ (x 1))) * (f x - c (ix2 ⟨(a (at1 (x 0))).toNat, ha _⟩ (x 1))))
      (Ideal.ofBits .f32 0x4A000000#32) := by
  funext j
  have hsum : Ideal.hostReduceAdd reducesTo_S16384x128_S_d0_1 (mulf (subf f (taken a c)) (subf f (taken a c))) (Ideal.ofBits .f32 0x00000000#32) j
      = ∑ x : S16384x128.Idx, (f x - c (ix2 ⟨(a (at1 (x 0))).toNat, ha _⟩ (x 1))) * (f x - c (ix2 ⟨(a (at1 (x 0))).toNat, ha _⟩ (x 1))) := by
    rw [Ideal.hostReduceAdd_total reducesTo_S16384x128_S_d0_1 (fun b => b.elim0), Ideal.ofBits_zero_f32, zero_add]
    refine Finset.sum_congr rfl fun x _ => ?_
    obtain ⟨r, col, rfl⟩ : ∃ r col, x = ix2 r col := ⟨_, _, eq_ix2 x⟩
    show (f (ix2 r col) - taken a c (ix2 r col)) * (f (ix2 r col) - taken a c (ix2 r col)) = _
    rw [taken_apply a ha]
  exact congrArg (fun s => Ideal.div s (Ideal.ofBits .f32 0x4A000000#32)) hsum

end InRange

end Cert.Proof.LossRef

end
-- ==== Proof.Equal.lean ====
/-
  The value claim: over the extended reals, the labels in range, the kernel's result is the reference's.
-/
module

public import proofs.«01_k».proof.Defs
public import proofs.«01_k».proof.Proof.Frames
public import proofs.«01_k».proof.Proof.Value
public import proofs.«01_k».proof.Proof.Reference

@[expose] public section

noncomputable section

namespace Cert.Proof.Loss

open Cert.KernelIdeal Cert.KernelIdeal.Gen
open Idealize.ShloMosaic Idealize.ShloMosaic.ValueIdx Idealize.SL.Sem

section Equation
variable (f : S16384x128.Idx → EReal) (a : S16384.Idx → BitVec 32) (c : S1000x128.Idx → EReal) (ha : ∀ j, (a j).toNat < 1000)

/-- The label of row `r` in the labels' rows of 128. -/
theorem lab2_apply (r : Fin 16384) : lab2 (F := Ideal) a (at2 (r.val / 128) (r.val % 128)) = a (LossRef.at1 r) := by
  have hr := r.isLt
  refine shapeCast_apply (s := S16384) (t := S128x128) a shapeCasts_S16384_S128x128 _ (LossRef.at1 r) ?_
  rw [Shape.rowMajor_val_two, Shape.rowMajor_val_one]
  show r.val = (r.val / 128 % 128) * 128 + r.val % 128 % 128
  omega

/-- A term of the kernel's sum is the squared difference of the feature and the center that its row's label names. -/
theorem term_eq (x : S16384x128.Idx) :
    term f (lab2 (F := Ideal) a) c (x 0).val (x 1).val
      = (f x - c (ix2 ⟨(a (LossRef.at1 (x 0))).toNat, ha _⟩ (x 1))) * (f x - c (ix2 ⟨(a (LossRef.at1 (x 0))).toNat, ha _⟩ (x 1))) := by
  have h0 : (x 0).val < 16384 := (x 0).isLt
  have h1 : (x 1).val < 128 := (x 1).isLt
  have hf : fAt (x 0).val (x 1).val = x := by
    funext b
    match b with
    | 0 => exact Fin.ext (Nat.mod_eq_of_lt h0)
    | 1 => exact Fin.ext (Nat.mod_eq_of_lt h1)
  have hc : cAt (a (LossRef.at1 (x 0))).toNat (x 1).val = ix2 ⟨(a (LossRef.at1 (x 0))).toNat, ha _⟩ (x 1) := by
    funext b
    match b with
    | 0 => exact Fin.ext (Nat.mod_eq_of_lt (ha _))
    | 1 => exact Fin.ext (Nat.mod_eq_of_lt h1)
  unfold term
  rw [hf, lab2_apply a (x 0), hc]
  rfl

include ha in
/-- The kernel's result is the reference's. -/
theorem result_eq : resultOf (F := Ideal) (partials f (lab2 (F := Ideal) a) c) = LossRef.mean f a c := by
  refine Eq.trans ?_ (LossRef.mean_apply a ha f c).symm
  funext j
  have hsum : Ideal.hostReduceAdd reducesTo_S16x16_S_d0_1 (partials (F := Ideal) f (lab2 (F := Ideal) a) c) (Ideal.ofBits .f32 0x00000000#32) j
      = ∑ x : S16384x128.Idx, (f x - c (ix2 ⟨(a (LossRef.at1 (x 0))).toNat, ha _⟩ (x 1))) * (f x - c (ix2 ⟨(a (LossRef.at1 (x 0))).toNat, ha _⟩ (x 1))) := by
    rw [Ideal.hostReduceAdd_total reducesTo_S16x16_S_d0_1 (fun b => b.elim0), Ideal.ofBits_zero_f32, zero_add, partials_sum]
    exact Finset.sum_congr rfl fun x _ => term_eq f a c ha x
  exact congrArg (fun s => Ideal.div s (Ideal.ofBits .f32 0x4A000000#32)) hsum

end Equation

/-- `Cert.algebraic_KernelIdeal_ReferenceIdeal` (Defs.lean): from memories that agree on the arguments, the labels in range,
    both programs end with the same mean and with their arguments as they were. -/
theorem same_mean : Cert.algebraic_KernelIdeal_ReferenceIdeal := by
  intro m ρ m' ρ' hpre harg
  have ha : ∀ (d : Dev nD) (j : S16384.Idx), BitVec.toNat (w := 32) (m (aLoc d) j) < 1000 := fun d j => small_of_pre _ _ _ (hpre d) j
  refine ⟨fun d => resultOf (table m d), (θ_run Cert.KernelIdeal.defs _ _).mono (fun _ h => h.1) (run_main (F := Ideal) m ρ ha),
    (θ_run Cert.ReferenceIdeal.defs _ _).mono (fun r h d => ⟨?_, (h d).2⟩) (LossRef.run_mean m' ρ')⟩
  rw [(h d).1, (harg d).1, (harg d).2.1, (harg d).2.2]
  exact (result_eq _ _ _ (ha d)).symm

end Cert.Proof.Loss

end
-- ==== Proof.lean ====
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_labels_in_range
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_labels_in_range.Gen.facts,
  Loss.frame_kernel, Loss.frame_ideal, Loss.frame_reference, Loss.frame_reference_pre, trivial, Loss.same_mean⟩

end Cert.Proof

end
